-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S64x128x128 Cert.KernelIdeal.S64x64x128
  ∧ IdealRules.bf16_pair.Statement Cert.KernelIdeal.S64x2x64 Cert.KernelIdeal.S64x1x64
  ∧ IdealRules.bf16_pair.Statement Cert.KernelIdeal.S64x130x64 Cert.KernelIdeal.S64x65x64
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x64x128x128 : Shape := ⟨4, ![1, 64, 128, 128]⟩
abbrev S64x128x128 : Shape := ⟨3, ![64, 128, 128]⟩
abbrev S64x64x128x2 : Shape := ⟨4, ![64, 64, 128, 2]⟩
abbrev S64x64x2x128 : Shape := ⟨4, ![64, 64, 2, 128]⟩
abbrev S10x64x96x64 : Shape := ⟨4, ![10, 64, 96, 64]⟩
abbrev S64x64x128 : Shape := ⟨3, ![64, 64, 128]⟩
abbrev S64x2x64 : Shape := ⟨3, ![64, 2, 64]⟩
abbrev S64x1x64 : Shape := ⟨3, ![64, 1, 64]⟩
abbrev S64x65x1 : Shape := ⟨3, ![64, 65, 1]⟩
abbrev S64x31x64 : Shape := ⟨3, ![64, 31, 64]⟩
abbrev S64x64x64 : Shape := ⟨3, ![64, 64, 64]⟩
abbrev S64x65x64 : Shape := ⟨3, ![64, 65, 64]⟩
abbrev S64x65x65 : Shape := ⟨3, ![64, 65, 65]⟩
abbrev S64x65x63 : Shape := ⟨3, ![64, 65, 63]⟩
abbrev S64x96x64 : Shape := ⟨3, ![64, 96, 64]⟩
abbrev S1x64x96x64 : Shape := ⟨4, ![1, 64, 96, 64]⟩
abbrev S10x64x6144 : Shape := ⟨3, ![10, 64, 6144]⟩
abbrev S1x1x63x63 : Shape := ⟨4, ![1, 1, 63, 63]⟩
abbrev S10x64x1024 : Shape := ⟨3, ![10, 64, 1024]⟩
abbrev S10x64x2048 : Shape := ⟨3, ![10, 64, 2048]⟩
abbrev S4x1664x1024 : Shape := ⟨3, ![4, 1664, 1024]⟩
abbrev S1664x2048 : Shape := ⟨2, ![1664, 2048]⟩
abbrev S1x2048 : Shape := ⟨2, ![1, 2048]⟩
abbrev S1x64x1024 : Shape := ⟨3, ![1, 64, 1024]⟩
abbrev S64x1024 : Shape := ⟨2, ![64, 1024]⟩
abbrev S1x64x960 : Shape := ⟨3, ![1, 64, 960]⟩
abbrev S64x960 : Shape := ⟨2, ![64, 960]⟩
abbrev S1x64x64 : Shape := ⟨3, ![1, 64, 64]⟩
abbrev S64x64 : Shape := ⟨2, ![64, 64]⟩
abbrev S1x64x896 : Shape := ⟨3, ![1, 64, 896]⟩
abbrev S64x896 : Shape := ⟨2, ![64, 896]⟩
abbrev S1x64x128 : Shape := ⟨3, ![1, 64, 128]⟩
abbrev S64x128 : Shape := ⟨2, ![64, 128]⟩
abbrev S1664x1024 : Shape := ⟨2, ![1664, 1024]⟩
abbrev S1024 : Shape := ⟨1, ![1024]⟩
abbrev S1x1024 : Shape := ⟨2, ![1, 1024]⟩
abbrev S1x1664x1024 : Shape := ⟨3, ![1, 1664, 1024]⟩
abbrev S1x1664x64 : Shape := ⟨3, ![1, 1664, 64]⟩
abbrev S1664x64 : Shape := ⟨2, ![1664, 64]⟩
abbrev S1x64x2048 : Shape := ⟨3, ![1, 64, 2048]⟩
abbrev S64x2048 : Shape := ⟨2, ![64, 2048]⟩
abbrev S1x64x1984 : Shape := ⟨3, ![1, 64, 1984]⟩
abbrev S64x1984 : Shape := ⟨2, ![64, 1984]⟩
abbrev S1x64x1920 : Shape := ⟨3, ![1, 64, 1920]⟩
abbrev S64x1920 : Shape := ⟨2, ![64, 1920]⟩
abbrev S1024x2048 : Shape := ⟨2, ![1024, 2048]⟩
abbrev S2048 : Shape := ⟨1, ![2048]⟩
abbrev S1x64 : Shape := ⟨2, ![1, 64]⟩
abbrev S32x64 : Shape := ⟨2, ![32, 64]⟩
abbrev S32x63 : Shape := ⟨2, ![32, 63]⟩
abbrev S1x1x32x63 : Shape := ⟨4, ![1, 1, 32, 63]⟩
abbrev S31x63 : Shape := ⟨2, ![31, 63]⟩
abbrev S1x1x31x63 : Shape := ⟨4, ![1, 1, 31, 63]⟩

abbrev nBuf : Space → Nat
  | .hbm => 18
  | .vmem => 16
  | .smem => 0
  | _ => 0

abbrev bufTy : (tb : Table) → Fin (tcTables nBuf tb) → BufTy
  | .hbm, ⟨0, _⟩ => ⟨S1x64x128x128, .f32⟩
  | .hbm, ⟨1, _⟩ => ⟨S1x64x128x128, .f32⟩
  | .hbm, ⟨2, _⟩ => ⟨S1x64x128x128, .f32⟩
  | .hbm, ⟨3, _⟩ => ⟨S64x128x128, .f32⟩
  | .hbm, ⟨4, _⟩ => ⟨S64x128x128, .bf16⟩
  | .hbm, ⟨5, _⟩ => ⟨S64x64x128x2, .bf16⟩
  | .hbm, ⟨6, _⟩ => ⟨S64x64x2x128, .bf16⟩
  | .hbm, ⟨7, _⟩ => ⟨S64x128x128, .bf16⟩
  | .hbm, ⟨8, _⟩ => ⟨S64x128x128, .f32⟩
  | .hbm, ⟨9, _⟩ => ⟨S64x128x128, .bf16⟩
  | .hbm, ⟨10, _⟩ => ⟨S64x64x128x2, .bf16⟩
  | .hbm, ⟨11, _⟩ => ⟨S64x64x2x128, .bf16⟩
  | .hbm, ⟨12, _⟩ => ⟨S64x128x128, .bf16⟩
  | .hbm, ⟨13, _⟩ => ⟨S10x64x96x64, .bf16⟩
  | .hbm, ⟨14, _⟩ => ⟨S10x64x96x64, .bf16⟩
  | .hbm, ⟨15, _⟩ => ⟨S10x64x6144, .bf16⟩
  | .hbm, ⟨16, _⟩ => ⟨S10x64x6144, .bf16⟩
  | .hbm, ⟨17, _⟩ => ⟨S1x1x63x63, .f32⟩
  | .local _ .vmem, ⟨0, _⟩ => ⟨S64x128x128, .bf16⟩
  | .local _ .vmem, ⟨1, _⟩ => ⟨S64x128x128, .bf16⟩
  | .local _ .vmem, ⟨2, _⟩ => ⟨S10x64x96x64, .bf16⟩
  | .local _ .vmem, ⟨3, _⟩ => ⟨S10x64x96x64, .bf16⟩
  | .local _ .vmem, ⟨4, _⟩ => ⟨S10x64x1024, .bf16⟩
  | .local _ .vmem, ⟨5, _⟩ => ⟨S10x64x1024, .bf16⟩
  | .local _ .vmem, ⟨6, _⟩ => ⟨S10x64x1024, .bf16⟩
  | .local _ .vmem, ⟨7, _⟩ => ⟨S10x64x1024, .bf16⟩
  | .local _ .vmem, ⟨8, _⟩ => ⟨S10x64x2048, .bf16⟩
  | .local _ .vmem, ⟨9, _⟩ => ⟨S10x64x2048, .bf16⟩
  | .local _ .vmem, ⟨10, _⟩ => ⟨S10x64x2048, .bf16⟩
  | .local _ .vmem, ⟨11, _⟩ => ⟨S10x64x2048, .bf16⟩
  | .local _ .vmem, ⟨12, _⟩ => ⟨S1x1x63x63, .f32⟩
  | .local _ .vmem, ⟨13, _⟩ => ⟨S4x1664x1024, .bf16⟩
  | .local _ .vmem, ⟨14, _⟩ => ⟨S1664x2048, .bf16⟩
  | .local _ .vmem, ⟨15, _⟩ => ⟨S1x2048, .f32⟩
  | _, _ => ⟨S1x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12

abbrev nD : Nat := 1
abbrev τ : Topo := Topo.v7x

variable {F : FTy → Type} [BitOps F]

abbrev grid0 : Pipeline.Grid := .none

abbrev stage0_0 : Fin 1 → Memref sig .tc .vmem S64x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x64x96x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x64x96x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 4], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 3 → Nat :=
  let arg1 : BitVec 32 := BitVec.ofNat 32 (i 1).val
  let v134 : Index := Scalar.indexCast arg1
  let c0_22 : Index := 0#32
  let c0_23 : Index := 0#32
  ![v134.toNat, 0, 0]
def k1_off2 (i : grid1.Coords) : Fin 3 → Nat :=
  let arg1 : BitVec 32 := BitVec.ofNat 32 (i 1).val
  let v6 : Index := Scalar.indexCast arg1
  let c0 : Index := 0#32
  let c0_3 : Index := 0#32
  ![v6.toNat, 0, 0]
def k1_cond4 (i : grid1.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_12 : BitVec 32 := 0#32
  let v22 : BitVec 1 := Scalar.cmpi .ne v21 c0_i32_12
  v22

def k1_cond5 (i : grid1.Coords) : BitVec 1 :=
  let arg0 : BitVec 32 := BitVec.ofNat 32 (i 0).val
  let c0_i32_19 : BitVec 32 := 0#32
  let v66 : BitVec 1 := Scalar.cmpi .eq arg0 c0_i32_19
  let v67 : BitVec 32 := Scalar.extui v66
  let c0_i32_20 : BitVec 32 := 0#32
  let v68 : BitVec 1 := Scalar.cmpi .ne v67 c0_i32_20
  v68

def k1_cond6 (i : grid1.Coords) : BitVec 1 :=
  let arg0 : BitVec 32 := BitVec.ofNat 32 (i 0).val
  let c1_i32 : BitVec 32 := 1#32
  let v69 : BitVec 1 := Scalar.cmpi .eq arg0 c1_i32
  let v70 : BitVec 32 := Scalar.extui v69
  let c0_i32_21 : BitVec 32 := 0#32
  let v71 : BitVec 1 := Scalar.cmpi .ne v70 c0_i32_21
  v71

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![c0_i32.toNat, c0_i32_0.toNat, v0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, c0_i32_0.toNat, v0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage1_0 : Fin 2 → Memref sig .tc .vmem S10x64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S10x64x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S10x64x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S10x64x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x1x63x63 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]
-- ==== KernelIdeal.lean ====
abbrev S64x130x64 : Shape := ⟨3, ![64, 130, 64]⟩
variable {F : FTy → Type} [FloatOps F] [Named F]
def κ : String → Option EReal := fun
  | "eps_sq" => some ((5316911940649 / 5316911983139663491615228241121378304 : ℝ) : EReal)
  | _ => none
-- ==== ReferenceIdeal.lean ====
abbrev S1x64x128x128 : Shape := ⟨4, ![1, 64, 128, 128]⟩
abbrev S_ : Shape := ⟨0, ![]⟩
abbrev S1x64x130x130 : Shape := ⟨4, ![1, 64, 130, 130]⟩
abbrev S1x64x63x63 : Shape := ⟨4, ![1, 64, 63, 63]⟩
abbrev S1x64x1x63x63 : Shape := ⟨5, ![1, 64, 1, 63, 63]⟩
abbrev S1x64x16x63x63 : Shape := ⟨5, ![1, 64, 16, 63, 63]⟩
abbrev S1x64x9x63x63 : Shape := ⟨5, ![1, 64, 9, 63, 63]⟩
abbrev S1x64x25x63x63 : Shape := ⟨5, ![1, 64, 25, 63, 63]⟩
abbrev S1x1600x3969 : Shape := ⟨3, ![1, 1600, 3969]⟩
abbrev S1x3969x1600 : Shape := ⟨3, ![1, 3969, 1600]⟩
abbrev S1x3969 : Shape := ⟨2, ![1, 3969]⟩
abbrev S1x3969x1 : Shape := ⟨3, ![1, 3969, 1]⟩
abbrev S1x1x3969 : Shape := ⟨3, ![1, 1, 3969]⟩
abbrev S3969x1600 : Shape := ⟨2, ![3969, 1600]⟩
abbrev S1600x3969 : Shape := ⟨2, ![1600, 3969]⟩
abbrev S3969x3969 : Shape := ⟨2, ![3969, 3969]⟩
abbrev S1x3969x3969 : Shape := ⟨3, ![1, 3969, 3969]⟩
abbrev S1x1x63x63 : Shape := ⟨4, ![1, 1, 63, 63]⟩

abbrev nBuf : Space → Nat
  | .hbm => 145
  | .vmem => 0
  | .smem => 0
  | _ => 0

abbrev hbmTy0_0 (i : Nat) : BufTy := match i % 128 with
  | 0 => ⟨S1x64x128x128, .f32⟩
  | 1 => ⟨S1x64x128x128, .f32⟩
  | 2 => ⟨S1x64x128x128, .f32⟩
  | 3 => ⟨S_, .i32⟩
  | 4 => ⟨S_, .f32⟩
  | 5 => ⟨S1x64x130x130, .f32⟩
  | 6 => ⟨S1x64x63x63, .f32⟩
  | 7 => ⟨S1x64x63x63, .f32⟩
  | 8 => ⟨S1x64x63x63, .f32⟩
  | 9 => ⟨S1x64x63x63, .f32⟩
  | 10 => ⟨S1x64x63x63, .f32⟩
  | 11 => ⟨S1x64x63x63, .f32⟩
  | 12 => ⟨S1x64x63x63, .f32⟩
  | 13 => ⟨S1x64x63x63, .f32⟩
  | 14 => ⟨S1x64x63x63, .f32⟩
  | 15 => ⟨S1x64x63x63, .f32⟩
  | 16 => ⟨S1x64x63x63, .f32⟩
  | 17 => ⟨S1x64x63x63, .f32⟩
  | 18 => ⟨S1x64x63x63, .f32⟩
  | 19 => ⟨S1x64x63x63, .f32⟩
  | 20 => ⟨S1x64x63x63, .f32⟩
  | 21 => ⟨S1x64x63x63, .f32⟩
  | 22 => ⟨S1x64x63x63, .f32⟩
  | 23 => ⟨S1x64x63x63, .f32⟩
  | 24 => ⟨S1x64x63x63, .f32⟩
  | 25 => ⟨S1x64x63x63, .f32⟩
  | 26 => ⟨S1x64x63x63, .f32⟩
  | 27 => ⟨S1x64x63x63, .f32⟩
  | 28 => ⟨S1x64x63x63, .f32⟩
  | 29 => ⟨S1x64x63x63, .f32⟩
  | 30 => ⟨S1x64x63x63, .f32⟩
  | 31 => ⟨S1x64x1x63x63, .f32⟩
  | 32 => ⟨S1x64x1x63x63, .f32⟩
  | 33 => ⟨S1x64x1x63x63, .f32⟩
  | 34 => ⟨S1x64x1x63x63, .f32⟩
  | 35 => ⟨S1x64x1x63x63, .f32⟩
  | 36 => ⟨S1x64x1x63x63, .f32⟩
  | 37 => ⟨S1x64x1x63x63, .f32⟩
  | 38 => ⟨S1x64x1x63x63, .f32⟩
  | 39 => ⟨S1x64x1x63x63, .f32⟩
  | 40 => ⟨S1x64x1x63x63, .f32⟩
  | 41 => ⟨S1x64x1x63x63, .f32⟩
  | 42 => ⟨S1x64x1x63x63, .f32⟩
  | 43 => ⟨S1x64x1x63x63, .f32⟩
  | 44 => ⟨S1x64x1x63x63, .f32⟩
  | 45 => ⟨S1x64x1x63x63, .f32⟩
  | 46 => ⟨S1x64x1x63x63, .f32⟩
  | 47 => ⟨S1x64x1x63x63, .f32⟩
  | 48 => ⟨S1x64x1x63x63, .f32⟩
  | 49 => ⟨S1x64x1x63x63, .f32⟩
  | 50 => ⟨S1x64x1x63x63, .f32⟩
  | 51 => ⟨S1x64x1x63x63, .f32⟩
  | 52 => ⟨S1x64x1x63x63, .f32⟩
  | 53 => ⟨S1x64x1x63x63, .f32⟩
  | 54 => ⟨S1x64x1x63x63, .f32⟩
  | 55 => ⟨S1x64x1x63x63, .f32⟩
  | 56 => ⟨S1x64x16x63x63, .f32⟩
  | 57 => ⟨S1x64x9x63x63, .f32⟩
  | 58 => ⟨S1x64x25x63x63, .f32⟩
  | 59 => ⟨S1x1600x3969, .f32⟩
  | 60 => ⟨S_, .i32⟩
  | 61 => ⟨S_, .f32⟩
  | 62 => ⟨S1x64x130x130, .f32⟩
  | 63 => ⟨S1x64x63x63, .f32⟩
  | 64 => ⟨S1x64x63x63, .f32⟩
  | 65 => ⟨S1x64x63x63, .f32⟩
  | 66 => ⟨S1x64x63x63, .f32⟩
  | 67 => ⟨S1x64x63x63, .f32⟩
  | 68 => ⟨S1x64x63x63, .f32⟩
  | 69 => ⟨S1x64x63x63, .f32⟩
  | 70 => ⟨S1x64x63x63, .f32⟩
  | 71 => ⟨S1x64x63x63, .f32⟩
  | 72 => ⟨S1x64x63x63, .f32⟩
  | 73 => ⟨S1x64x63x63, .f32⟩
  | 74 => ⟨S1x64x63x63, .f32⟩
  | 75 => ⟨S1x64x63x63, .f32⟩
  | 76 => ⟨S1x64x63x63, .f32⟩
  | 77 => ⟨S1x64x63x63, .f32⟩
  | 78 => ⟨S1x64x63x63, .f32⟩
  | 79 => ⟨S1x64x63x63, .f32⟩
  | 80 => ⟨S1x64x63x63, .f32⟩
  | 81 => ⟨S1x64x63x63, .f32⟩
  | 82 => ⟨S1x64x63x63, .f32⟩
  | 83 => ⟨S1x64x63x63, .f32⟩
  | 84 => ⟨S1x64x63x63, .f32⟩
  | 85 => ⟨S1x64x63x63, .f32⟩
  | 86 => ⟨S1x64x63x63, .f32⟩
  | 87 => ⟨S1x64x63x63, .f32⟩
  | 88 => ⟨S1x64x1x63x63, .f32⟩
  | 89 => ⟨S1x64x1x63x63, .f32⟩
  | 90 => ⟨S1x64x1x63x63, .f32⟩
  | 91 => ⟨S1x64x1x63x63, .f32⟩
  | 92 => ⟨S1x64x1x63x63, .f32⟩
  | 93 => ⟨S1x64x1x63x63, .f32⟩
  | 94 => ⟨S1x64x1x63x63, .f32⟩
  | 95 => ⟨S1x64x1x63x63, .f32⟩
  | 96 => ⟨S1x64x1x63x63, .f32⟩
  | 97 => ⟨S1x64x1x63x63, .f32⟩
  | 98 => ⟨S1x64x1x63x63, .f32⟩
  | 99 => ⟨S1x64x1x63x63, .f32⟩
  | 100 => ⟨S1x64x1x63x63, .f32⟩
  | 101 => ⟨S1x64x1x63x63, .f32⟩
  | 102 => ⟨S1x64x1x63x63, .f32⟩
  | 103 => ⟨S1x64x1x63x63, .f32⟩
  | 104 => ⟨S1x64x1x63x63, .f32⟩
  | 105 => ⟨S1x64x1x63x63, .f32⟩
  | 106 => ⟨S1x64x1x63x63, .f32⟩
  | 107 => ⟨S1x64x1x63x63, .f32⟩
  | 108 => ⟨S1x64x1x63x63, .f32⟩
  | 109 => ⟨S1x64x1x63x63, .f32⟩
  | 110 => ⟨S1x64x1x63x63, .f32⟩
  | 111 => ⟨S1x64x1x63x63, .f32⟩
  | 112 => ⟨S1x64x1x63x63, .f32⟩
  | 113 => ⟨S1x64x16x63x63, .f32⟩
  | 114 => ⟨S1x64x9x63x63, .f32⟩
  | 115 => ⟨S1x64x25x63x63, .f32⟩
  | 116 => ⟨S1x1600x3969, .f32⟩
  | 117 => ⟨S1x3969x1600, .f32⟩
  | 118 => ⟨S1x3969x1600, .f32⟩
  | 119 => ⟨S_, .f32⟩
  | 120 => ⟨S1x3969, .f32⟩
  | 121 => ⟨S1x3969x1, .f32⟩
  | 122 => ⟨S1x3969x1, .f32⟩
  | 123 => ⟨S_, .f32⟩
  | 124 => ⟨S1x3969x1, .f32⟩
  | 125 => ⟨S1x3969x1, .f32⟩
  | 126 => ⟨S1x3969x1600, .f32⟩
  | 127 => ⟨S1x3969x1600, .f32⟩
  | _ => ⟨S1x64x128x128, .f32⟩

abbrev hbmTy0_1 (i : Nat) : BufTy := match i % 128 with
  | 0 => ⟨S1x1600x3969, .f32⟩
  | 1 => ⟨S_, .f32⟩
  | 2 => ⟨S1x3969, .f32⟩
  | 3 => ⟨S1x1x3969, .f32⟩
  | 4 => ⟨S1x1x3969, .f32⟩
  | 5 => ⟨S_, .f32⟩
  | 6 => ⟨S1x1x3969, .f32⟩
  | 7 => ⟨S1x1x3969, .f32⟩
  | 8 => ⟨S1x1600x3969, .f32⟩
  | 9 => ⟨S1x1600x3969, .f32⟩
  | 10 => ⟨S3969x1600, .f32⟩
  | 11 => ⟨S1600x3969, .f32⟩
  | 12 => ⟨S3969x3969, .f32⟩
  | 13 => ⟨S1x3969x3969, .f32⟩
  | 14 => ⟨S_, .f32⟩
  | 15 => ⟨S1x3969, .f32⟩
  | 16 => ⟨S1x1x63x63, .f32⟩
  | _ => ⟨S1x64x128x128, .f32⟩

abbrev hbmTy (i : Nat) : BufTy := match i / 128 with
  | 0 => hbmTy0_0 i
  | 1 => hbmTy0_1 i
  | _ => ⟨S1x64x128x128, .f32⟩

abbrev bufTy : (tb : Table) → Fin (tcTables nBuf tb) → BufTy
  | .hbm, ⟨i, _⟩ => hbmTy i
  | _, _ => ⟨S1x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_c_0 : Ref sig .tc := ⟨.hbm, 60, rfl⟩
abbrev main_call1_v0 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_call2_v0 : Ref sig .tc := ⟨.hbm, 118, rfl⟩
abbrev main_call2_cst : Ref sig .tc := ⟨.hbm, 119, rfl⟩
abbrev main_call2_v1 : Ref sig .tc := ⟨.hbm, 120, rfl⟩
abbrev main_call2_v2 : Ref sig .tc := ⟨.hbm, 121, rfl⟩
abbrev main_v111 : Ref sig .tc := ⟨.hbm, 122, rfl⟩
abbrev main_cst : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_call3_v0 : Ref sig .tc := ⟨.hbm, 128, rfl⟩
abbrev main_call3_cst : Ref sig .tc := ⟨.hbm, 129, rfl⟩
abbrev main_call3_v1 : Ref sig .tc := ⟨.hbm, 130, rfl⟩
abbrev main_call3_v2 : Ref sig .tc := ⟨.hbm, 131, rfl⟩
abbrev main_v116 : Ref sig .tc := ⟨.hbm, 132, rfl⟩
abbrev main_cst_1 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_cst_2 : Ref sig .tc := ⟨.hbm, 142, rfl⟩
abbrev main_v125 : Ref sig .tc := ⟨.hbm, 143, rfl⟩
abbrev main_v126 : Ref sig .tc := ⟨.hbm, 144, rfl⟩

abbrev nD : Nat := 1
abbrev τ : Topo := Topo.v7x

variable {F : FTy → Type} [FloatOps F]
-- ==== Proof.RefRun.lean ====
/-
  The reference's straight line of host operations in seven stretches, and its run.

  Every execution ends with the result array at the seven stretches' values composed and with the arguments as they
  were. Both images are unfolded by the same function, so it is stated once and used twice.
-/
module

public import proofs.«01_k».proof.Proof.Gen.ReferenceIdeal
public import Idealize.ShloMosaic.Lib.StableHlo.Run

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-! ## The values -/

/-- The padded image. -/
def padded (x : FVec F S1x64x128x128 .f32) : FVec F S1x64x130x130 .f32 :=
  pad S1x64x130x130 ![0, 0, 1, 1] ![0, 0, 1, 1] ![0, 0, 0, 0] x (sitofp .f32 (constantI S_ 32 0#32)) pads_S1x64x128x128_S1x64x130x130_000_000_110_110 h_S_

/-- Sixteen shifted images in a stack. -/
def cat16 (u0 u1 u2 u3 u4 u5 u6 u7 u8 u9 u10 u11 u12 u13 u14 u15 : FVec F S1x64x1x63x63 .f32) : FVec F S1x64x16x63x63 .f32 :=
  concatenate S1x64x16x63x63 2 [⟨S1x64x1x63x63, u0⟩, ⟨S1x64x1x63x63, u1⟩, ⟨S1x64x1x63x63, u2⟩, ⟨S1x64x1x63x63, u3⟩, ⟨S1x64x1x63x63, u4⟩, ⟨S1x64x1x63x63, u5⟩, ⟨S1x64x1x63x63, u6⟩, ⟨S1x64x1x63x63, u7⟩, ⟨S1x64x1x63x63, u8⟩, ⟨S1x64x1x63x63, u9⟩, ⟨S1x64x1x63x63, u10⟩, ⟨S1x64x1x63x63, u11⟩, ⟨S1x64x1x63x63, u12⟩, ⟨S1x64x1x63x63, u13⟩, ⟨S1x64x1x63x63, u14⟩, ⟨S1x64x1x63x63, u15⟩] concatenates_S1x64x1x63x63_S1x64x1x63x63_S1x64x1x63x63_S1x64x1x63x63_S1x64x1x63x63_S1x64x1x63x63_S1x64x1x63x63_S1x64x1x63x63_S1x64x1x63x63_S1x64x1x63x63_S1x64x1x63x63_S1x64x1x63x63_S1x64x1x63x63_S1x64x1x63x63_S1x64x1x63x63_S1x64x1x63x63_S1x64x16x63x63_d2

/-- Nine shifted images in a stack. -/
def cat9 (u0 u1 u2 u3 u4 u5 u6 u7 u8 : FVec F S1x64x1x63x63 .f32) : FVec F S1x64x9x63x63 .f32 :=
  concatenate S1x64x9x63x63 2 [⟨S1x64x1x63x63, u0⟩, ⟨S1x64x1x63x63, u1⟩, ⟨S1x64x1x63x63, u2⟩, ⟨S1x64x1x63x63, u3⟩, ⟨S1x64x1x63x63, u4⟩, ⟨S1x64x1x63x63, u5⟩, ⟨S1x64x1x63x63, u6⟩, ⟨S1x64x1x63x63, u7⟩, ⟨S1x64x1x63x63, u8⟩] concatenates_S1x64x1x63x63_S1x64x1x63x63_S1x64x1x63x63_S1x64x1x63x63_S1x64x1x63x63_S1x64x1x63x63_S1x64x1x63x63_S1x64x1x63x63_S1x64x1x63x63_S1x64x9x63x63_d2

/-- The two stacks, one after the other. -/
def cat25 (a : FVec F S1x64x16x63x63 .f32) (b : FVec F S1x64x9x63x63 .f32) : FVec F S1x64x25x63x63 .f32 :=
  concatenate S1x64x25x63x63 2 [⟨S1x64x16x63x63, a⟩, ⟨S1x64x9x63x63, b⟩] concatenates_S1x64x16x63x63_S1x64x9x63x63_S1x64x25x63x63_d2

/-- One shifted image: every other row and column from an offset, as a layer of the stack. -/
def shifted (off : Fin 4 → ℕ) (h : S1x64x130x130.SlicesBy off ![1, 1, 2, 2] S1x64x63x63) (x : FVec F S1x64x130x130 .f32) : FVec F S1x64x1x63x63 .f32 :=
  broadcastInDim S1x64x1x63x63 ![0, 1, 3, 4] bcast_S1x64x63x63_S1x64x1x63x63_0_1_3_4 (Host.slice S1x64x63x63 off ![1, 1, 2, 2] x h)

/-- A padded image unfolded into its 5 by 5 windows at stride 2. -/
def unfolded (x : FVec F S1x64x130x130 .f32) : FVec F S1x1600x3969 .f32 :=
  shapeCast S1x1600x3969 (cat25
    (cat16 (shifted ![0, 0, 0, 0] slicesBy_S1x64x130x130_S1x64x63x63_0s1_0s1_0s2_0s2 x)
      (shifted ![0, 0, 0, 1] slicesBy_S1x64x130x130_S1x64x63x63_0s1_0s1_0s2_1s2 x)
      (shifted ![0, 0, 0, 2] slicesBy_S1x64x130x130_S1x64x63x63_0s1_0s1_0s2_2s2 x)
      (shifted ![0, 0, 0, 3] slicesBy_S1x64x130x130_S1x64x63x63_0s1_0s1_0s2_3s2 x)
      (shifted ![0, 0, 0, 4] slicesBy_S1x64x130x130_S1x64x63x63_0s1_0s1_0s2_4s2 x)
      (shifted ![0, 0, 1, 0] slicesBy_S1x64x130x130_S1x64x63x63_0s1_0s1_1s2_0s2 x)
      (shifted ![0, 0, 1, 1] slicesBy_S1x64x130x130_S1x64x63x63_0s1_0s1_1s2_1s2 x)
      (shifted ![0, 0, 1, 2] slicesBy_S1x64x130x130_S1x64x63x63_0s1_0s1_1s2_2s2 x)
      (shifted ![0, 0, 1, 3] slicesBy_S1x64x130x130_S1x64x63x63_0s1_0s1_1s2_3s2 x)
      (shifted ![0, 0, 1, 4] slicesBy_S1x64x130x130_S1x64x63x63_0s1_0s1_1s2_4s2 x)
      (shifted ![0, 0, 2, 0] slicesBy_S1x64x130x130_S1x64x63x63_0s1_0s1_2s2_0s2 x)
      (shifted ![0, 0, 2, 1] slicesBy_S1x64x130x130_S1x64x63x63_0s1_0s1_2s2_1s2 x)
      (shifted ![0, 0, 2, 2] slicesBy_S1x64x130x130_S1x64x63x63_0s1_0s1_2s2_2s2 x)
      (shifted ![0, 0, 2, 3] slicesBy_S1x64x130x130_S1x64x63x63_0s1_0s1_2s2_3s2 x)
      (shifted ![0, 0, 2, 4] slicesBy_S1x64x130x130_S1x64x63x63_0s1_0s1_2s2_4s2 x)
      (shifted ![0, 0, 3, 0] slicesBy_S1x64x130x130_S1x64x63x63_0s1_0s1_3s2_0s2 x))
    (cat9 (shifted ![0, 0, 3, 1] slicesBy_S1x64x130x130_S1x64x63x63_0s1_0s1_3s2_1s2 x)
      (shifted ![0, 0, 3, 2] slicesBy_S1x64x130x130_S1x64x63x63_0s1_0s1_3s2_2s2 x)
      (shifted ![0, 0, 3, 3] slicesBy_S1x64x130x130_S1x64x63x63_0s1_0s1_3s2_3s2 x)
      (shifted ![0, 0, 3, 4] slicesBy_S1x64x130x130_S1x64x63x63_0s1_0s1_3s2_4s2 x)
      (shifted ![0, 0, 4, 0] slicesBy_S1x64x130x130_S1x64x63x63_0s1_0s1_4s2_0s2 x)
      (shifted ![0, 0, 4, 1] slicesBy_S1x64x130x130_S1x64x63x63_0s1_0s1_4s2_1s2 x)
      (shifted ![0, 0, 4, 2] slicesBy_S1x64x130x130_S1x64x63x63_0s1_0s1_4s2_2s2 x)
      (shifted ![0, 0, 4, 3] slicesBy_S1x64x130x130_S1x64x63x63_0s1_0s1_4s2_3s2 x)
      (shifted ![0, 0, 4, 4] slicesBy_S1x64x130x130_S1x64x63x63_0s1_0s1_4s2_4s2 x))) shapeCasts_S1x64x25x63x63_S1x1600x3969

/-- The key windows in rows, each divided by its length. -/
def normK (k : FVec F S1x1600x3969 .f32) : FVec F S1x3969x1600 .f32 :=
  Host.divf (transpose S1x3969x1600 [0, 2, 1] k transposes_S1x1600x3969_S1x3969x1600_0_2_1)
    (broadcastInDim S1x3969x1600 ![0, 1, 2] bcast_S1x3969x1_S1x3969x1600_0_1_2
      (maximumf (Host.sqrt (broadcastInDim S1x3969x1 ![0, 1] bcast_S1x3969_S1x3969x1_0_1
          (Host.reduceAdd (mulf (transpose S1x3969x1600 [0, 2, 1] k transposes_S1x1600x3969_S1x3969x1600_0_2_1)
            (transpose S1x3969x1600 [0, 2, 1] k transposes_S1x1600x3969_S1x3969x1600_0_2_1)) (constant S_ .f32 0x00000000#32) reducesTo_S1x3969x1600_S1x3969_d2 h_S_)))
        (broadcastInDim S1x3969x1 ![] bcast_S_S1x3969x1 (constant S_ .f32 0x2B8CBCCC#32))))

/-- The query windows in columns, each divided by its length. -/
def normQ (q : FVec F S1x1600x3969 .f32) : FVec F S1x1600x3969 .f32 :=
  Host.divf q
    (broadcastInDim S1x1600x3969 ![0, 1, 2] bcast_S1x1x3969_S1x1600x3969_0_1_2
      (maximumf (Host.sqrt (broadcastInDim S1x1x3969 ![0, 2] bcast_S1x3969_S1x1x3969_0_2
          (Host.reduceAdd (mulf q q) (constant S_ .f32 0x00000000#32) reducesTo_S1x1600x3969_S1x3969_d1 h_S_)))
        (broadcastInDim S1x1x3969 ![] bcast_S_S1x1x3969 (constant S_ .f32 0x2B8CBCCC#32))))

/-- The products of key rows and query columns, and for each query the largest. -/
def largest (k : FVec F S1x3969x1600 .f32) (q : FVec F S1x1600x3969 .f32) : FVec F S1x1x63x63 .f32 :=
  shapeCast S1x1x63x63 (Host.reduce FloatOps.maximumf (broadcastInDim S1x3969x3969 ![1, 2] bcast_S3969x3969_S1x3969x3969_1_2
    (Host.dotGeneral dot_S3969x1600_S1600x3969_S3969x3969_1_0_0_1_n_n none
      (shapeCast S3969x1600 k shapeCasts_S1x3969x1600_S3969x1600) (shapeCast S1600x3969 q shapeCasts_S1x1600x3969_S1600x3969)))
    (constant S_ .f32 0xFF800000#32) reducesTo_S1x3969x3969_S1x3969_d1 h_S_) shapeCasts_S1x3969_S1x1x63x63

/-- The reference's result of its two arguments: `x` the key image and `y` the query image. -/
def result (x y : FVec F S1x64x128x128 .f32) : FVec F S1x1x63x63 .f32 :=
  largest (normK (unfolded (padded x))) (normQ (unfolded (padded y)))

/-! ## The operations -/

set_option maxHeartbeats 4000000 in
/-- Padding the query image. -/
def linePadQ : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S1x64x128x128, .f32⟩) main_arg1) (TRef.of (T := ⟨S_, .f32⟩) main_call0_v0) (TRef.of (T := ⟨S1x64x130x130, .f32⟩) main_v0) (fun x v => pad S1x64x130x130 ![0, 0, 1, 1] ![0, 0, 1, 1] ![0, 0, 0, 0] x v pads_S1x64x128x128_S1x64x130x130_000_000_110_110 h_S_) ]

set_option maxHeartbeats 4000000 in
/-- The query image unfolded into its windows. -/
def lineUnfQ : List (HloOp τ sig (Elt F)) :=
  [ unary main_v0 main_v1 ((Host.slice S1x64x63x63 ![0, 0, 0, 0] ![1, 1, 2, 2] · slicesBy_S1x64x130x130_S1x64x63x63_0s1_0s1_0s2_0s2) : (⟨S1x64x130x130, .f32⟩ : BufTy).Contents (Elt F) → (⟨S1x64x63x63, .f32⟩ : BufTy).Contents (Elt F)),
    unary main_v0 main_v2 ((Host.slice S1x64x63x63 ![0, 0, 0, 1] ![1, 1, 2, 2] · slicesBy_S1x64x130x130_S1x64x63x63_0s1_0s1_0s2_1s2) : (⟨S1x64x130x130, .f32⟩ : BufTy).Contents (Elt F) → (⟨S1x64x63x63, .f32⟩ : BufTy).Contents (Elt F)),
    unary main_v0 main_v3 ((Host.slice S1x64x63x63 ![0, 0, 0, 2] ![1, 1, 2, 2] · slicesBy_S1x64x130x130_S1x64x63x63_0s1_0s1_0s2_2s2) : (⟨S1x64x130x130, .f32⟩ : BufTy).Contents (Elt F) → (⟨S1x64x63x63, .f32⟩ : BufTy).Contents (Elt F)),
    unary main_v0 main_v4 ((Host.slice S1x64x63x63 ![0, 0, 0, 3] ![1, 1, 2, 2] · slicesBy_S1x64x130x130_S1x64x63x63_0s1_0s1_0s2_3s2) : (⟨S1x64x130x130, .f32⟩ : BufTy).Contents (Elt F) → (⟨S1x64x63x63, .f32⟩ : BufTy).Contents (Elt F)),
    unary main_v0 main_v5 ((Host.slice S1x64x63x63 ![0, 0, 0, 4] ![1, 1, 2, 2] · slicesBy_S1x64x130x130_S1x64x63x63_0s1_0s1_0s2_4s2) : (⟨S1x64x130x130, .f32⟩ : BufTy).Contents (Elt F) → (⟨S1x64x63x63, .f32⟩ : BufTy).Contents (Elt F)),
    unary main_v0 main_v6 ((Host.slice S1x64x63x63 ![0, 0, 1, 0] ![1, 1, 2, 2] · slicesBy_S1x64x130x130_S1x64x63x63_0s1_0s1_1s2_0s2) : (⟨S1x64x130x130, .f32⟩ : BufTy).Contents (Elt F) → (⟨S1x64x63x63, .f32⟩ : BufTy).Contents (Elt F)),
    unary main_v0 main_v7 ((Host.slice S1x64x63x63 ![0, 0, 1, 1] ![1, 1, 2, 2] · slicesBy_S1x64x130x130_S1x64x63x63_0s1_0s1_1s2_1s2) : (⟨S1x64x130x130, .f32⟩ : BufTy).Contents (Elt F) → (⟨S1x64x63x63, .f32⟩ : BufTy).Contents (Elt F)),
    unary main_v0 main_v8 ((Host.slice S1x64x63x63 ![0, 0, 1, 2] ![1, 1, 2, 2] · slicesBy_S1x64x130x130_S1x64x63x63_0s1_0s1_1s2_2s2) : (⟨S1x64x130x130, .f32⟩ : BufTy).Contents (Elt F) → (⟨S1x64x63x63, .f32⟩ : BufTy).Contents (Elt F)),
    unary main_v0 main_v9 ((Host.slice S1x64x63x63 ![0, 0, 1, 3] ![1, 1, 2, 2] · slicesBy_S1x64x130x130_S1x64x63x63_0s1_0s1_1s2_3s2) : (⟨S1x64x130x130, .f32⟩ : BufTy).Contents (Elt F) → (⟨S1x64x63x63, .f32⟩ : BufTy).Contents (Elt F)),
    unary main_v0 main_v10 ((Host.slice S1x64x63x63 ![0, 0, 1, 4] ![1, 1, 2, 2] · slicesBy_S1x64x130x130_S1x64x63x63_0s1_0s1_1s2_4s2) : (⟨S1x64x130x130, .f32⟩ : BufTy).Contents (Elt F) → (⟨S1x64x63x63, .f32⟩ : BufTy).Contents (Elt F)),
    unary main_v0 main_v11 ((Host.slice S1x64x63x63 ![0, 0, 2, 0] ![1, 1, 2, 2] · slicesBy_S1x64x130x130_S1x64x63x63_0s1_0s1_2s2_0s2) : (⟨S1x64x130x130, .f32⟩ : BufTy).Contents (Elt F) → (⟨S1x64x63x63, .f32⟩ : BufTy).Contents (Elt F)),
    unary main_v0 main_v12 ((Host.slice S1x64x63x63 ![0, 0, 2, 1] ![1, 1, 2, 2] · slicesBy_S1x64x130x130_S1x64x63x63_0s1_0s1_2s2_1s2) : (⟨S1x64x130x130, .f32⟩ : BufTy).Contents (Elt F) → (⟨S1x64x63x63, .f32⟩ : BufTy).Contents (Elt F)),
    unary main_v0 main_v13 ((Host.slice S1x64x63x63 ![0, 0, 2, 2] ![1, 1, 2, 2] · slicesBy_S1x64x130x130_S1x64x63x63_0s1_0s1_2s2_2s2) : (⟨S1x64x130x130, .f32⟩ : BufTy).Contents (Elt F) → (⟨S1x64x63x63, .f32⟩ : BufTy).Contents (Elt F)),
    unary main_v0 main_v14 ((Host.slice S1x64x63x63 ![0, 0, 2, 3] ![1, 1, 2, 2] · slicesBy_S1x64x130x130_S1x64x63x63_0s1_0s1_2s2_3s2) : (⟨S1x64x130x130, .f32⟩ : BufTy).Contents (Elt F) → (⟨S1x64x63x63, .f32⟩ : BufTy).Contents (Elt F)),
    unary main_v0 main_v15 ((Host.slice S1x64x63x63 ![0, 0, 2, 4] ![1, 1, 2, 2] · slicesBy_S1x64x130x130_S1x64x63x63_0s1_0s1_2s2_4s2) : (⟨S1x64x130x130, .f32⟩ : BufTy).Contents (Elt F) → (⟨S1x64x63x63, .f32⟩ : BufTy).Contents (Elt F)),
    unary main_v0 main_v16 ((Host.slice S1x64x63x63 ![0, 0, 3, 0] ![1, 1, 2, 2] · slicesBy_S1x64x130x130_S1x64x63x63_0s1_0s1_3s2_0s2) : (⟨S1x64x130x130, .f32⟩ : BufTy).Contents (Elt F) → (⟨S1x64x63x63, .f32⟩ : BufTy).Contents (Elt F)),
    unary main_v0 main_v17 ((Host.slice S1x64x63x63 ![0, 0, 3, 1] ![1, 1, 2, 2] · slicesBy_S1x64x130x130_S1x64x63x63_0s1_0s1_3s2_1s2) : (⟨S1x64x130x130, .f32⟩ : BufTy).Contents (Elt F) → (⟨S1x64x63x63, .f32⟩ : BufTy).Contents (Elt F)),
    unary main_v0 main_v18 ((Host.slice S1x64x63x63 ![0, 0, 3, 2] ![1, 1, 2, 2] · slicesBy_S1x64x130x130_S1x64x63x63_0s1_0s1_3s2_2s2) : (⟨S1x64x130x130, .f32⟩ : BufTy).Contents (Elt F) → (⟨S1x64x63x63, .f32⟩ : BufTy).Contents (Elt F)),
    unary main_v0 main_v19 ((Host.slice S1x64x63x63 ![0, 0, 3, 3] ![1, 1, 2, 2] · slicesBy_S1x64x130x130_S1x64x63x63_0s1_0s1_3s2_3s2) : (⟨S1x64x130x130, .f32⟩ : BufTy).Contents (Elt F) → (⟨S1x64x63x63, .f32⟩ : BufTy).Contents (Elt F)),
    unary main_v0 main_v20 ((Host.slice S1x64x63x63 ![0, 0, 3, 4] ![1, 1, 2, 2] · slicesBy_S1x64x130x130_S1x64x63x63_0s1_0s1_3s2_4s2) : (⟨S1x64x130x130, .f32⟩ : BufTy).Contents (Elt F) → (⟨S1x64x63x63, .f32⟩ : BufTy).Contents (Elt F)),
    unary main_v0 main_v21 ((Host.slice S1x64x63x63 ![0, 0, 4, 0] ![1, 1, 2, 2] · slicesBy_S1x64x130x130_S1x64x63x63_0s1_0s1_4s2_0s2) : (⟨S1x64x130x130, .f32⟩ : BufTy).Contents (Elt F) → (⟨S1x64x63x63, .f32⟩ : BufTy).Contents (Elt F)),
    unary main_v0 main_v22 ((Host.slice S1x64x63x63 ![0, 0, 4, 1] ![1, 1, 2, 2] · slicesBy_S1x64x130x130_S1x64x63x63_0s1_0s1_4s2_1s2) : (⟨S1x64x130x130, .f32⟩ : BufTy).Contents (Elt F) → (⟨S1x64x63x63, .f32⟩ : BufTy).Contents (Elt F)),
    unary main_v0 main_v23 ((Host.slice S1x64x63x63 ![0, 0, 4, 2] ![1, 1, 2, 2] · slicesBy_S1x64x130x130_S1x64x63x63_0s1_0s1_4s2_2s2) : (⟨S1x64x130x130, .f32⟩ : BufTy).Contents (Elt F) → (⟨S1x64x63x63, .f32⟩ : BufTy).Contents (Elt F)),
    unary main_v0 main_v24 ((Host.slice S1x64x63x63 ![0, 0, 4, 3] ![1, 1, 2, 2] · slicesBy_S1x64x130x130_S1x64x63x63_0s1_0s1_4s2_3s2) : (⟨S1x64x130x130, .f32⟩ : BufTy).Contents (Elt F) → (⟨S1x64x63x63, .f32⟩ : BufTy).Contents (Elt F)),
    unary main_v0 main_v25 ((Host.slice S1x64x63x63 ![0, 0, 4, 4] ![1, 1, 2, 2] · slicesBy_S1x64x130x130_S1x64x63x63_0s1_0s1_4s2_4s2) : (⟨S1x64x130x130, .f32⟩ : BufTy).Contents (Elt F) → (⟨S1x64x63x63, .f32⟩ : BufTy).Contents (Elt F)),
    unary main_v1 main_v26 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v2 main_v27 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v3 main_v28 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v4 main_v29 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v5 main_v30 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v6 main_v31 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v7 main_v32 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v8 main_v33 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v9 main_v34 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v10 main_v35 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v11 main_v36 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v12 main_v37 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v13 main_v38 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v14 main_v39 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v15 main_v40 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v16 main_v41 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v17 main_v42 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v18 main_v43 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v19 main_v44 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v20 main_v45 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v21 main_v46 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v22 main_v47 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v23 main_v48 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v24 main_v49 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v25 main_v50 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    nary ![main_v26, main_v27, main_v28, main_v29, main_v30, main_v31, main_v32, main_v33, main_v34, main_v35, main_v36, main_v37, main_v38, main_v39, main_v40, main_v41] main_v51 (fun u => cat16 (F := F) (u 0) (u 1) (u 2) (u 3) (u 4) (u 5) (u 6) (u 7) (u 8) (u 9) (u 10) (u 11) (u 12) (u 13) (u 14) (u 15)),
    nary ![main_v42, main_v43, main_v44, main_v45, main_v46, main_v47, main_v48, main_v49, main_v50] main_v52 (fun u => cat9 (F := F) (u 0) (u 1) (u 2) (u 3) (u 4) (u 5) (u 6) (u 7) (u 8)),
    binary main_v51 main_v52 main_v53 (cat25 (F := F)),
    reshape main_v53 main_v54 (rfl : (.f32 : EltTy) = .f32) shapeCasts_S1x64x25x63x63_S1x1600x3969 ]

set_option maxHeartbeats 4000000 in
/-- Padding the key image. -/
def linePadK : List (HloOp τ sig (Elt F)) :=
  [ nullary main_c_0 (constantI S_ 32 0#32),
    TRef.unary (TRef.of (T := ⟨S_, .i32⟩) main_c_0) (TRef.of (T := ⟨S_, .f32⟩) main_call1_v0) (sitofp .f32),
    TRef.binary (TRef.of (T := ⟨S1x64x128x128, .f32⟩) main_arg0) (TRef.of (T := ⟨S_, .f32⟩) main_call1_v0) (TRef.of (T := ⟨S1x64x130x130, .f32⟩) main_v55) (fun x v => pad S1x64x130x130 ![0, 0, 1, 1] ![0, 0, 1, 1] ![0, 0, 0, 0] x v pads_S1x64x128x128_S1x64x130x130_000_000_110_110 h_S_) ]

set_option maxHeartbeats 4000000 in
/-- The key image unfolded into its windows. -/
def lineUnfK : List (HloOp τ sig (Elt F)) :=
  [ unary main_v55 main_v56 ((Host.slice S1x64x63x63 ![0, 0, 0, 0] ![1, 1, 2, 2] · slicesBy_S1x64x130x130_S1x64x63x63_0s1_0s1_0s2_0s2) : (⟨S1x64x130x130, .f32⟩ : BufTy).Contents (Elt F) → (⟨S1x64x63x63, .f32⟩ : BufTy).Contents (Elt F)),
    unary main_v55 main_v57 ((Host.slice S1x64x63x63 ![0, 0, 0, 1] ![1, 1, 2, 2] · slicesBy_S1x64x130x130_S1x64x63x63_0s1_0s1_0s2_1s2) : (⟨S1x64x130x130, .f32⟩ : BufTy).Contents (Elt F) → (⟨S1x64x63x63, .f32⟩ : BufTy).Contents (Elt F)),
    unary main_v55 main_v58 ((Host.slice S1x64x63x63 ![0, 0, 0, 2] ![1, 1, 2, 2] · slicesBy_S1x64x130x130_S1x64x63x63_0s1_0s1_0s2_2s2) : (⟨S1x64x130x130, .f32⟩ : BufTy).Contents (Elt F) → (⟨S1x64x63x63, .f32⟩ : BufTy).Contents (Elt F)),
    unary main_v55 main_v59 ((Host.slice S1x64x63x63 ![0, 0, 0, 3] ![1, 1, 2, 2] · slicesBy_S1x64x130x130_S1x64x63x63_0s1_0s1_0s2_3s2) : (⟨S1x64x130x130, .f32⟩ : BufTy).Contents (Elt F) → (⟨S1x64x63x63, .f32⟩ : BufTy).Contents (Elt F)),
    unary main_v55 main_v60 ((Host.slice S1x64x63x63 ![0, 0, 0, 4] ![1, 1, 2, 2] · slicesBy_S1x64x130x130_S1x64x63x63_0s1_0s1_0s2_4s2) : (⟨S1x64x130x130, .f32⟩ : BufTy).Contents (Elt F) → (⟨S1x64x63x63, .f32⟩ : BufTy).Contents (Elt F)),
    unary main_v55 main_v61 ((Host.slice S1x64x63x63 ![0, 0, 1, 0] ![1, 1, 2, 2] · slicesBy_S1x64x130x130_S1x64x63x63_0s1_0s1_1s2_0s2) : (⟨S1x64x130x130, .f32⟩ : BufTy).Contents (Elt F) → (⟨S1x64x63x63, .f32⟩ : BufTy).Contents (Elt F)),
    unary main_v55 main_v62 ((Host.slice S1x64x63x63 ![0, 0, 1, 1] ![1, 1, 2, 2] · slicesBy_S1x64x130x130_S1x64x63x63_0s1_0s1_1s2_1s2) : (⟨S1x64x130x130, .f32⟩ : BufTy).Contents (Elt F) → (⟨S1x64x63x63, .f32⟩ : BufTy).Contents (Elt F)),
    unary main_v55 main_v63 ((Host.slice S1x64x63x63 ![0, 0, 1, 2] ![1, 1, 2, 2] · slicesBy_S1x64x130x130_S1x64x63x63_0s1_0s1_1s2_2s2) : (⟨S1x64x130x130, .f32⟩ : BufTy).Contents (Elt F) → (⟨S1x64x63x63, .f32⟩ : BufTy).Contents (Elt F)),
    unary main_v55 main_v64 ((Host.slice S1x64x63x63 ![0, 0, 1, 3] ![1, 1, 2, 2] · slicesBy_S1x64x130x130_S1x64x63x63_0s1_0s1_1s2_3s2) : (⟨S1x64x130x130, .f32⟩ : BufTy).Contents (Elt F) → (⟨S1x64x63x63, .f32⟩ : BufTy).Contents (Elt F)),
    unary main_v55 main_v65 ((Host.slice S1x64x63x63 ![0, 0, 1, 4] ![1, 1, 2, 2] · slicesBy_S1x64x130x130_S1x64x63x63_0s1_0s1_1s2_4s2) : (⟨S1x64x130x130, .f32⟩ : BufTy).Contents (Elt F) → (⟨S1x64x63x63, .f32⟩ : BufTy).Contents (Elt F)),
    unary main_v55 main_v66 ((Host.slice S1x64x63x63 ![0, 0, 2, 0] ![1, 1, 2, 2] · slicesBy_S1x64x130x130_S1x64x63x63_0s1_0s1_2s2_0s2) : (⟨S1x64x130x130, .f32⟩ : BufTy).Contents (Elt F) → (⟨S1x64x63x63, .f32⟩ : BufTy).Contents (Elt F)),
    unary main_v55 main_v67 ((Host.slice S1x64x63x63 ![0, 0, 2, 1] ![1, 1, 2, 2] · slicesBy_S1x64x130x130_S1x64x63x63_0s1_0s1_2s2_1s2) : (⟨S1x64x130x130, .f32⟩ : BufTy).Contents (Elt F) → (⟨S1x64x63x63, .f32⟩ : BufTy).Contents (Elt F)),
    unary main_v55 main_v68 ((Host.slice S1x64x63x63 ![0, 0, 2, 2] ![1, 1, 2, 2] · slicesBy_S1x64x130x130_S1x64x63x63_0s1_0s1_2s2_2s2) : (⟨S1x64x130x130, .f32⟩ : BufTy).Contents (Elt F) → (⟨S1x64x63x63, .f32⟩ : BufTy).Contents (Elt F)),
    unary main_v55 main_v69 ((Host.slice S1x64x63x63 ![0, 0, 2, 3] ![1, 1, 2, 2] · slicesBy_S1x64x130x130_S1x64x63x63_0s1_0s1_2s2_3s2) : (⟨S1x64x130x130, .f32⟩ : BufTy).Contents (Elt F) → (⟨S1x64x63x63, .f32⟩ : BufTy).Contents (Elt F)),
    unary main_v55 main_v70 ((Host.slice S1x64x63x63 ![0, 0, 2, 4] ![1, 1, 2, 2] · slicesBy_S1x64x130x130_S1x64x63x63_0s1_0s1_2s2_4s2) : (⟨S1x64x130x130, .f32⟩ : BufTy).Contents (Elt F) → (⟨S1x64x63x63, .f32⟩ : BufTy).Contents (Elt F)),
    unary main_v55 main_v71 ((Host.slice S1x64x63x63 ![0, 0, 3, 0] ![1, 1, 2, 2] · slicesBy_S1x64x130x130_S1x64x63x63_0s1_0s1_3s2_0s2) : (⟨S1x64x130x130, .f32⟩ : BufTy).Contents (Elt F) → (⟨S1x64x63x63, .f32⟩ : BufTy).Contents (Elt F)),
    unary main_v55 main_v72 ((Host.slice S1x64x63x63 ![0, 0, 3, 1] ![1, 1, 2, 2] · slicesBy_S1x64x130x130_S1x64x63x63_0s1_0s1_3s2_1s2) : (⟨S1x64x130x130, .f32⟩ : BufTy).Contents (Elt F) → (⟨S1x64x63x63, .f32⟩ : BufTy).Contents (Elt F)),
    unary main_v55 main_v73 ((Host.slice S1x64x63x63 ![0, 0, 3, 2] ![1, 1, 2, 2] · slicesBy_S1x64x130x130_S1x64x63x63_0s1_0s1_3s2_2s2) : (⟨S1x64x130x130, .f32⟩ : BufTy).Contents (Elt F) → (⟨S1x64x63x63, .f32⟩ : BufTy).Contents (Elt F)),
    unary main_v55 main_v74 ((Host.slice S1x64x63x63 ![0, 0, 3, 3] ![1, 1, 2, 2] · slicesBy_S1x64x130x130_S1x64x63x63_0s1_0s1_3s2_3s2) : (⟨S1x64x130x130, .f32⟩ : BufTy).Contents (Elt F) → (⟨S1x64x63x63, .f32⟩ : BufTy).Contents (Elt F)),
    unary main_v55 main_v75 ((Host.slice S1x64x63x63 ![0, 0, 3, 4] ![1, 1, 2, 2] · slicesBy_S1x64x130x130_S1x64x63x63_0s1_0s1_3s2_4s2) : (⟨S1x64x130x130, .f32⟩ : BufTy).Contents (Elt F) → (⟨S1x64x63x63, .f32⟩ : BufTy).Contents (Elt F)),
    unary main_v55 main_v76 ((Host.slice S1x64x63x63 ![0, 0, 4, 0] ![1, 1, 2, 2] · slicesBy_S1x64x130x130_S1x64x63x63_0s1_0s1_4s2_0s2) : (⟨S1x64x130x130, .f32⟩ : BufTy).Contents (Elt F) → (⟨S1x64x63x63, .f32⟩ : BufTy).Contents (Elt F)),
    unary main_v55 main_v77 ((Host.slice S1x64x63x63 ![0, 0, 4, 1] ![1, 1, 2, 2] · slicesBy_S1x64x130x130_S1x64x63x63_0s1_0s1_4s2_1s2) : (⟨S1x64x130x130, .f32⟩ : BufTy).Contents (Elt F) → (⟨S1x64x63x63, .f32⟩ : BufTy).Contents (Elt F)),
    unary main_v55 main_v78 ((Host.slice S1x64x63x63 ![0, 0, 4, 2] ![1, 1, 2, 2] · slicesBy_S1x64x130x130_S1x64x63x63_0s1_0s1_4s2_2s2) : (⟨S1x64x130x130, .f32⟩ : BufTy).Contents (Elt F) → (⟨S1x64x63x63, .f32⟩ : BufTy).Contents (Elt F)),
    unary main_v55 main_v79 ((Host.slice S1x64x63x63 ![0, 0, 4, 3] ![1, 1, 2, 2] · slicesBy_S1x64x130x130_S1x64x63x63_0s1_0s1_4s2_3s2) : (⟨S1x64x130x130, .f32⟩ : BufTy).Contents (Elt F) → (⟨S1x64x63x63, .f32⟩ : BufTy).Contents (Elt F)),
    unary main_v55 main_v80 ((Host.slice S1x64x63x63 ![0, 0, 4, 4] ![1, 1, 2, 2] · slicesBy_S1x64x130x130_S1x64x63x63_0s1_0s1_4s2_4s2) : (⟨S1x64x130x130, .f32⟩ : BufTy).Contents (Elt F) → (⟨S1x64x63x63, .f32⟩ : BufTy).Contents (Elt F)),
    unary main_v56 main_v81 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v57 main_v82 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v58 main_v83 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v59 main_v84 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v60 main_v85 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v61 main_v86 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v62 main_v87 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v63 main_v88 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v64 main_v89 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v65 main_v90 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v66 main_v91 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v67 main_v92 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v68 main_v93 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v69 main_v94 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v70 main_v95 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v71 main_v96 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v72 main_v97 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v73 main_v98 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v74 main_v99 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v75 main_v100 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v76 main_v101 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v77 main_v102 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v78 main_v103 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v79 main_v104 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    unary main_v80 main_v105 (broadcastInDim S1x64x1x63x63 ![0, 1, 3, 4] bcast_S1x64x63x63_S1x64x1x63x63_0_1_3_4 : (⟨S1x64x63x63, .f32⟩ : BufTy).Contents (Elt F) → (⟨S1x64x1x63x63, .f32⟩ : BufTy).Contents (Elt F)),
    nary ![main_v81, main_v82, main_v83, main_v84, main_v85, main_v86, main_v87, main_v88, main_v89, main_v90, main_v91, main_v92, main_v93, main_v94, main_v95, main_v96] main_v106 (fun u => cat16 (F := F) (u 0) (u 1) (u 2) (u 3) (u 4) (u 5) (u 6) (u 7) (u 8) (u 9) (u 10) (u 11) (u 12) (u 13) (u 14) (u 15)),
    nary ![main_v97, main_v98, main_v99, main_v100, main_v101, main_v102, main_v103, main_v104, main_v105] main_v107 (fun u => cat9 (F := F) (u 0) (u 1) (u 2) (u 3) (u 4) (u 5) (u 6) (u 7) (u 8)),
    binary main_v106 main_v107 main_v108 (cat25 (F := F)),
    reshape main_v108 main_v109 (rfl : (.f32 : EltTy) = .f32) shapeCasts_S1x64x25x63x63_S1x1600x3969 ]

set_option maxHeartbeats 4000000 in
/-- The key windows, normalised. -/
def lineNormK : List (HloOp τ sig (Elt F)) :=
  [ unary main_v109 main_v110 ((transpose S1x3969x1600 [0, 2, 1] · transposes_S1x1600x3969_S1x3969x1600_0_2_1) : (⟨S1x1600x3969, .f32⟩ : BufTy).Contents (Elt F) → (⟨S1x3969x1600, .f32⟩ : BufTy).Contents (Elt F)),
    TRef.binary (TRef.of (T := ⟨S1x3969x1600, .f32⟩) main_v110) (TRef.of (T := ⟨S1x3969x1600, .f32⟩) main_v110) (TRef.of (T := ⟨S1x3969x1600, .f32⟩) main_call2_v0) mulf,
    TRef.nullary (TRef.of (T := ⟨S_, .f32⟩) main_call2_cst) (constant S_ .f32 0x00000000#32),
    TRef.binary (TRef.of (T := ⟨S1x3969x1600, .f32⟩) main_call2_v0) (TRef.of (T := ⟨S_, .f32⟩) main_call2_cst) (TRef.of (T := ⟨S1x3969, .f32⟩) main_call2_v1) (fun x v => Host.reduceAdd x v reducesTo_S1x3969x1600_S1x3969_d2 h_S_),
    TRef.unary (TRef.of (T := ⟨S1x3969, .f32⟩) main_call2_v1) (TRef.of (T := ⟨S1x3969x1, .f32⟩) main_call2_v2) (broadcastInDim S1x3969x1 ![0, 1] bcast_S1x3969_S1x3969x1_0_1),
    TRef.unary (TRef.of (T := ⟨S1x3969x1, .f32⟩) main_call2_v2) (TRef.of (T := ⟨S1x3969x1, .f32⟩) main_v111) Host.sqrt,
    nullary main_cst (constant S_ .f32 0x2B8CBCCC#32),
    unary main_cst main_v112 (broadcastInDim S1x3969x1 ![] bcast_S_S1x3969x1 : (⟨S_, .f32⟩ : BufTy).Contents (Elt F) → (⟨S1x3969x1, .f32⟩ : BufTy).Contents (Elt F)),
    binary main_v111 main_v112 main_v113 (maximumf : (⟨S1x3969x1, .f32⟩ : BufTy).Contents (Elt F) → (⟨S1x3969x1, .f32⟩ : BufTy).Contents (Elt F) → (⟨S1x3969x1, .f32⟩ : BufTy).Contents (Elt F)),
    unary main_v113 main_v114 (broadcastInDim S1x3969x1600 ![0, 1, 2] bcast_S1x3969x1_S1x3969x1600_0_1_2 : (⟨S1x3969x1, .f32⟩ : BufTy).Contents (Elt F) → (⟨S1x3969x1600, .f32⟩ : BufTy).Contents (Elt F)),
    binary main_v110 main_v114 main_v115 (Host.divf : (⟨S1x3969x1600, .f32⟩ : BufTy).Contents (Elt F) → (⟨S1x3969x1600, .f32⟩ : BufTy).Contents (Elt F) → (⟨S1x3969x1600, .f32⟩ : BufTy).Contents (Elt F)) ]

set_option maxHeartbeats 4000000 in
/-- The query windows, normalised. -/
def lineNormQ : List (HloOp τ sig (Elt F)) :=
  [ TRef.binary (TRef.of (T := ⟨S1x1600x3969, .f32⟩) main_v54) (TRef.of (T := ⟨S1x1600x3969, .f32⟩) main_v54) (TRef.of (T := ⟨S1x1600x3969, .f32⟩) main_call3_v0) mulf,
    TRef.nullary (TRef.of (T := ⟨S_, .f32⟩) main_call3_cst) (constant S_ .f32 0x00000000#32),
    TRef.binary (TRef.of (T := ⟨S1x1600x3969, .f32⟩) main_call3_v0) (TRef.of (T := ⟨S_, .f32⟩) main_call3_cst) (TRef.of (T := ⟨S1x3969, .f32⟩) main_call3_v1) (fun x v => Host.reduceAdd x v reducesTo_S1x1600x3969_S1x3969_d1 h_S_),
    TRef.unary (TRef.of (T := ⟨S1x3969, .f32⟩) main_call3_v1) (TRef.of (T := ⟨S1x1x3969, .f32⟩) main_call3_v2) (broadcastInDim S1x1x3969 ![0, 2] bcast_S1x3969_S1x1x3969_0_2),
    TRef.unary (TRef.of (T := ⟨S1x1x3969, .f32⟩) main_call3_v2) (TRef.of (T := ⟨S1x1x3969, .f32⟩) main_v116) Host.sqrt,
    nullary main_cst_1 (constant S_ .f32 0x2B8CBCCC#32),
    unary main_cst_1 main_v117 (broadcastInDim S1x1x3969 ![] bcast_S_S1x1x3969 : (⟨S_, .f32⟩ : BufTy).Contents (Elt F) → (⟨S1x1x3969, .f32⟩ : BufTy).Contents (Elt F)),
    binary main_v116 main_v117 main_v118 (maximumf : (⟨S1x1x3969, .f32⟩ : BufTy).Contents (Elt F) → (⟨S1x1x3969, .f32⟩ : BufTy).Contents (Elt F) → (⟨S1x1x3969, .f32⟩ : BufTy).Contents (Elt F)),
    unary main_v118 main_v119 (broadcastInDim S1x1600x3969 ![0, 1, 2] bcast_S1x1x3969_S1x1600x3969_0_1_2 : (⟨S1x1x3969, .f32⟩ : BufTy).Contents (Elt F) → (⟨S1x1600x3969, .f32⟩ : BufTy).Contents (Elt F)),
    binary main_v54 main_v119 main_v120 (Host.divf : (⟨S1x1600x3969, .f32⟩ : BufTy).Contents (Elt F) → (⟨S1x1600x3969, .f32⟩ : BufTy).Contents (Elt F) → (⟨S1x1600x3969, .f32⟩ : BufTy).Contents (Elt F)) ]

set_option maxHeartbeats 4000000 in
/-- The products and their maximum. -/
def lineMax : List (HloOp τ sig (Elt F)) :=
  [ reshape main_v115 main_v121 (rfl : (.f32 : EltTy) = .f32) shapeCasts_S1x3969x1600_S3969x1600,
    reshape main_v120 main_v122 (rfl : (.f32 : EltTy) = .f32) shapeCasts_S1x1600x3969_S1600x3969,
    binary main_v121 main_v122 main_v123 ((fun l r => Host.dotGeneral dot_S3969x1600_S1600x3969_S3969x3969_1_0_0_1_n_n none l r) : (⟨S3969x1600, .f32⟩ : BufTy).Contents (Elt F) → (⟨S1600x3969, .f32⟩ : BufTy).Contents (Elt F) → (⟨S3969x3969, .f32⟩ : BufTy).Contents (Elt F)),
    unary main_v123 main_v124 (broadcastInDim S1x3969x3969 ![1, 2] bcast_S3969x3969_S1x3969x3969_1_2 : (⟨S3969x3969, .f32⟩ : BufTy).Contents (Elt F) → (⟨S1x3969x3969, .f32⟩ : BufTy).Contents (Elt F)),
    nullary main_cst_2 (constant S_ .f32 0xFF800000#32),
    binary main_v124 main_cst_2 main_v125 ((fun x v => Host.reduce FloatOps.maximumf x v reducesTo_S1x3969x3969_S1x3969_d1 h_S_) : (⟨S1x3969x3969, .f32⟩ : BufTy).Contents (Elt F) → (⟨S_, .f32⟩ : BufTy).Contents (Elt F) → (⟨S1x3969, .f32⟩ : BufTy).Contents (Elt F)),
    reshape main_v125 main_v126 (rfl : (.f32 : EltTy) = .f32) shapeCasts_S1x3969_S1x1x63x63 ]

/-- The whole line. -/
def ops : List (HloOp τ sig (Elt F)) :=
  linePadQ ++ (lineUnfQ ++ (linePadK ++ (lineUnfK ++ (lineNormK ++ (lineNormQ ++ lineMax)))))

set_option maxHeartbeats 4000000 in
/-- The program is the line of its operations. -/
theorem main_eq (c : Dev nD) : main (F := F) c = seq ops := rfl
/-- The reference scopes no array. -/
theorem scopedRefs_eq : (Finset.univ.filter fun b : Ref sig .tc => b.isScoped) = ∅ := by decide
/-- The reference scopes no counter. -/
theorem scopedSems_eq : (Finset.univ.filter fun sm : SemLoc sig => sm.isScoped .tc) = ∅ := by decide

/-! ## What each stretch writes -/

/-- The arrays written: padding the query image. -/
def linePadQW : List (Ref sig .tc) := [main_c, main_call0_v0, main_v0]

/-- They are all it writes. -/
theorem linePadQ_writes : (linePadQ : List (HloOp τ sig (Elt F))).Forall fun op => op.writes ⊆ (linePadQW.map (Proc.devRef (τ := τ) .tc)).toFinset :=
  forall_writes_sub_of_map rfl

/-- It writes nothing fresh. -/
theorem linePadQ_fresh : (linePadQ : List (HloOp τ sig (Elt F))).Forall fun op => op.fresh = ∅ := forall_fresh_of_map rfl

/-- It names arrays of the program only. -/
theorem linePadQ_sub : (linePadQ : List (HloOp τ sig (Elt F))).Forall fun op => op.bufs ⊆ tcRefs τ sig :=
  ⟨nullary_bufs_sub .., unary_bufs_sub .., binary_bufs_sub ..⟩

/-- The arrays written: the query image unfolded into its windows. -/
def lineUnfQW : List (Ref sig .tc) := [main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54]

/-- They are all it writes. -/
theorem lineUnfQ_writes : (lineUnfQ : List (HloOp τ sig (Elt F))).Forall fun op => op.writes ⊆ (lineUnfQW.map (Proc.devRef (τ := τ) .tc)).toFinset :=
  forall_writes_sub_of_map rfl

/-- It writes nothing fresh. -/
theorem lineUnfQ_fresh : (lineUnfQ : List (HloOp τ sig (Elt F))).Forall fun op => op.fresh = ∅ := forall_fresh_of_map rfl

/-- It names arrays of the program only. -/
theorem lineUnfQ_sub : (lineUnfQ : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., binary_bufs_sub .., reshape_bufs_sub ..⟩

/-- The arrays written: padding the key image. -/
def linePadKW : List (Ref sig .tc) := [main_c_0, main_call1_v0, main_v55]

/-- They are all it writes. -/
theorem linePadK_writes : (linePadK : List (HloOp τ sig (Elt F))).Forall fun op => op.writes ⊆ (linePadKW.map (Proc.devRef (τ := τ) .tc)).toFinset :=
  forall_writes_sub_of_map rfl

/-- It writes nothing fresh. -/
theorem linePadK_fresh : (linePadK : List (HloOp τ sig (Elt F))).Forall fun op => op.fresh = ∅ := forall_fresh_of_map rfl

/-- It names arrays of the program only. -/
theorem linePadK_sub : (linePadK : List (HloOp τ sig (Elt F))).Forall fun op => op.bufs ⊆ tcRefs τ sig :=
  ⟨nullary_bufs_sub .., unary_bufs_sub .., binary_bufs_sub ..⟩

/-- The arrays written: the key image unfolded into its windows. -/
def lineUnfKW : List (Ref sig .tc) := [main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109]

/-- They are all it writes. -/
theorem lineUnfK_writes : (lineUnfK : List (HloOp τ sig (Elt F))).Forall fun op => op.writes ⊆ (lineUnfKW.map (Proc.devRef (τ := τ) .tc)).toFinset :=
  forall_writes_sub_of_map rfl

/-- It writes nothing fresh. -/
theorem lineUnfK_fresh : (lineUnfK : List (HloOp τ sig (Elt F))).Forall fun op => op.fresh = ∅ := forall_fresh_of_map rfl

/-- It names arrays of the program only. -/
theorem lineUnfK_sub : (lineUnfK : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., binary_bufs_sub .., reshape_bufs_sub ..⟩

/-- The arrays written: the key windows, normalised. -/
def lineNormKW : List (Ref sig .tc) := [main_v110, main_call2_v0, main_call2_cst, main_call2_v1, main_call2_v2, main_v111, main_cst, main_v112, main_v113, main_v114, main_v115]

/-- They are all it writes. -/
theorem lineNormK_writes : (lineNormK : List (HloOp τ sig (Elt F))).Forall fun op => op.writes ⊆ (lineNormKW.map (Proc.devRef (τ := τ) .tc)).toFinset :=
  forall_writes_sub_of_map rfl

/-- It writes nothing fresh. -/
theorem lineNormK_fresh : (lineNormK : List (HloOp τ sig (Elt F))).Forall fun op => op.fresh = ∅ := forall_fresh_of_map rfl

/-- It names arrays of the program only. -/
theorem lineNormK_sub : (lineNormK : List (HloOp τ sig (Elt F))).Forall fun op => op.bufs ⊆ tcRefs τ sig :=
  ⟨unary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The arrays written: the query windows, normalised. -/
def lineNormQW : List (Ref sig .tc) := [main_call3_v0, main_call3_cst, main_call3_v1, main_call3_v2, main_v116, main_cst_1, main_v117, main_v118, main_v119, main_v120]

/-- They are all it writes. -/
theorem lineNormQ_writes : (lineNormQ : List (HloOp τ sig (Elt F))).Forall fun op => op.writes ⊆ (lineNormQW.map (Proc.devRef (τ := τ) .tc)).toFinset :=
  forall_writes_sub_of_map rfl

/-- It writes nothing fresh. -/
theorem lineNormQ_fresh : (lineNormQ : List (HloOp τ sig (Elt F))).Forall fun op => op.fresh = ∅ := forall_fresh_of_map rfl

/-- It names arrays of the program only. -/
theorem lineNormQ_sub : (lineNormQ : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

/-- The arrays written: the products and their maximum. -/
def lineMaxW : List (Ref sig .tc) := [main_v121, main_v122, main_v123, main_v124, main_cst_2, main_v125, main_v126]

/-- They are all it writes. -/
theorem lineMax_writes : (lineMax : List (HloOp τ sig (Elt F))).Forall fun op => op.writes ⊆ (lineMaxW.map (Proc.devRef (τ := τ) .tc)).toFinset :=
  forall_writes_sub_of_map rfl

/-- It writes nothing fresh. -/
theorem lineMax_fresh : (lineMax : List (HloOp τ sig (Elt F))).Forall fun op => op.fresh = ∅ := forall_fresh_of_map rfl

/-- It names arrays of the program only. -/
theorem lineMax_sub : (lineMax : List (HloOp τ sig (Elt F))).Forall fun op => op.bufs ⊆ tcRefs τ sig :=
  ⟨reshape_bufs_sub .., reshape_bufs_sub .., binary_bufs_sub .., unary_bufs_sub .., nullary_bufs_sub .., binary_bufs_sub .., reshape_bufs_sub ..⟩

/-! ## What each stretch leaves in its result -/

section Values
variable (V : Valuation τ sig (Elt F))

set_option maxHeartbeats 8000000 in
/-- Padding the query image. -/
theorem linePadQ_value : after linePadQ V (Proc.devRef .tc main_v0) = padded (V (Proc.devRef .tc main_arg1)) := by
  simp only [linePadQ, TRef.binary, TRef.nullary, TRef.unary, TRef.toBuf, TRef.ofBuf, cast_eq]
  after_results_simp <;> (try dsimp only [Matrix.cons_val]) <;> (try after_results_simp) <;> rfl

set_option maxHeartbeats 8000000 in
/-- The query image unfolded into its windows. -/
theorem lineUnfQ_value : after lineUnfQ V (Proc.devRef .tc main_v54) = unfolded (V (Proc.devRef .tc main_v0)) := by
  simp only [lineUnfQ, TRef.binary, TRef.nullary, TRef.unary, TRef.toBuf, TRef.ofBuf, cast_eq]
  after_results_simp <;> (try dsimp only [Matrix.cons_val]) <;> (try after_results_simp) <;> rfl

set_option maxHeartbeats 8000000 in
/-- Padding the key image. -/
theorem linePadK_value : after linePadK V (Proc.devRef .tc main_v55) = padded (V (Proc.devRef .tc main_arg0)) := by
  simp only [linePadK, TRef.binary, TRef.nullary, TRef.unary, TRef.toBuf, TRef.ofBuf, cast_eq]
  after_results_simp <;> (try dsimp only [Matrix.cons_val]) <;> (try after_results_simp) <;> rfl

set_option maxHeartbeats 8000000 in
/-- The key image unfolded into its windows. -/
theorem lineUnfK_value : after lineUnfK V (Proc.devRef .tc main_v109) = unfolded (V (Proc.devRef .tc main_v55)) := by
  simp only [lineUnfK, TRef.binary, TRef.nullary, TRef.unary, TRef.toBuf, TRef.ofBuf, cast_eq]
  after_results_simp <;> (try dsimp only [Matrix.cons_val]) <;> (try after_results_simp) <;> rfl

set_option maxHeartbeats 8000000 in
/-- The key windows, normalised. -/
theorem lineNormK_value : after lineNormK V (Proc.devRef .tc main_v115) = normK (V (Proc.devRef .tc main_v109)) := by
  simp only [lineNormK, TRef.binary, TRef.nullary, TRef.unary, TRef.toBuf, TRef.ofBuf, cast_eq]
  after_results_simp <;> (try dsimp only [Matrix.cons_val]) <;> (try after_results_simp) <;> rfl

set_option maxHeartbeats 8000000 in
/-- The query windows, normalised. -/
theorem lineNormQ_value : after lineNormQ V (Proc.devRef .tc main_v120) = normQ (V (Proc.devRef .tc main_v54)) := by
  simp only [lineNormQ, TRef.binary, TRef.nullary, TRef.unary, TRef.toBuf, TRef.ofBuf, cast_eq]
  after_results_simp <;> (try dsimp only [Matrix.cons_val]) <;> (try after_results_simp) <;> rfl

set_option maxHeartbeats 8000000 in
/-- The products and their maximum. -/
theorem lineMax_value : after lineMax V (Proc.devRef .tc main_v126) = largest (V (Proc.devRef .tc main_v115)) (V (Proc.devRef .tc main_v120)) := by
  simp only [lineMax, TRef.binary, TRef.nullary, TRef.unary, TRef.toBuf, TRef.ofBuf, cast_eq]
  after_results_simp <;> (try dsimp only [Matrix.cons_val]) <;> (try after_results_simp) <;> rfl

end Values

/-! ## The run -/

/-- One stretch after another. -/
theorem after_append (l₁ l₂ : List (HloOp τ sig (Elt F))) (V : Valuation τ sig (Elt F)) : after (l₁ ++ l₂) V = after l₂ (after l₁ V) := by
  induction l₁ generalizing V with
  | nil => rfl
  | cons o l ih => exact ih _

/-- A property of the operations of all seven stretches holds of the whole line. -/
theorem ops_forall {p : HloOp τ sig (Elt F) → Prop} (h₁ : (linePadQ (F := F)).Forall p) (h₂ : (lineUnfQ (F := F)).Forall p) (h₃ : (linePadK (F := F)).Forall p)
    (h₄ : (lineUnfK (F := F)).Forall p) (h₅ : (lineNormK (F := F)).Forall p) (h₆ : (lineNormQ (F := F)).Forall p) (h₇ : (lineMax (F := F)).Forall p) :
    (ops (F := F)).Forall p := by
  simp only [List.forall_iff_forall_mem] at *
  intro x hx
  unfold ops at hx
  simp only [List.mem_append] at hx
  rcases hx with h | h | h | h | h | h | h
  exacts [h₁ x h, h₂ x h, h₃ x h, h₄ x h, h₅ x h, h₆ x h, h₇ x h]

/-- An array none of the stretches writes is left as it was. -/
theorem ops_keep (r : Ref sig .tc) (V : Valuation τ sig (Elt F))
    (hr : r ∉ linePadQW ∧ r ∉ lineUnfQW ∧ r ∉ linePadKW ∧ r ∉ lineUnfKW ∧ r ∉ lineNormKW ∧ r ∉ lineNormQW ∧ r ∉ lineMaxW) :
    after ops V (Proc.devRef .tc r) = V (Proc.devRef .tc r) := by
  unfold ops
  simp only [after_append]
  rw [after_of_writes_sub _ _ lineMax_writes hr.2.2.2.2.2.2, after_of_writes_sub _ _ lineNormQ_writes hr.2.2.2.2.2.1,
    after_of_writes_sub _ _ lineNormK_writes hr.2.2.2.2.1, after_of_writes_sub _ _ lineUnfK_writes hr.2.2.2.1,
    after_of_writes_sub _ _ linePadK_writes hr.2.2.1, after_of_writes_sub _ _ lineUnfQ_writes hr.2.1,
    after_of_writes_sub _ _ linePadQ_writes hr.1]

/-- The whole line leaves the reference's result. -/
theorem ops_value (V : Valuation τ sig (Elt F)) :
    after ops V (Proc.devRef .tc main_v126) = result (V (Proc.devRef .tc main_arg0)) (V (Proc.devRef .tc main_arg1)) := by
  unfold ops
  simp only [after_append]
  rw [lineMax_value, lineNormQ_value, after_of_writes_sub (r := main_v115) _ _ lineNormQ_writes (by decide), lineNormK_value,
    after_of_writes_sub (r := main_v54) _ _ lineNormK_writes (by decide), after_of_writes_sub (r := main_v54) _ _ lineUnfK_writes (by decide),
    after_of_writes_sub (r := main_v54) _ _ linePadK_writes (by decide), lineUnfQ_value, linePadQ_value, lineUnfK_value, linePadK_value,
    after_of_writes_sub (r := main_arg0) _ _ lineUnfQ_writes (by decide), after_of_writes_sub (r := main_arg0) _ _ linePadQ_writes (by decide)]
  rfl

/-- On every device, from any memory with zero counters: every weakly fair execution ends with the result array at the
    reference's result of its arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v126) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v126).trans (ops_value _), (h c main_arg0).trans (ops_keep _ _ (by decide)),
      (h c main_arg1).trans (ops_keep _ _ (by decide)), (h c main_arg2).trans (ops_keep _ _ (by decide))⟩)
    (run_seq scopedRefs_eq scopedSems_eq defs main (fun _ => ops) main_eq
      (fun _ => ops_forall linePadQ_sub lineUnfQ_sub linePadK_sub lineUnfK_sub lineNormK_sub lineNormQ_sub lineMax_sub) m ρ
      (fun _ => List.forall_iff_forall_mem.mp
        (ops_forall linePadQ_fresh lineUnfQ_fresh linePadK_fresh lineUnfK_fresh lineNormK_fresh lineNormQ_fresh lineMax_fresh)))

end Cert.ReferenceIdeal.Line

end
-- ==== Proof.SimStep.lean ====
/- One grid point of the similarity region (`cc1__sim_body`), as functions of what its buffers read: the key tile kept in scratch,
   the query columns kept in scratch, the running column maxima, and the rows of the result written at the last key tile. -/
module

public import proofs.«01_k».proof.Proof.Gen.KernelIdeal.Points
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.ValueIdxCore

@[expose] public section

set_option maxRecDepth 16384

noncomputable section

namespace Cert.KernelIdeal.Sim
open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The conditions of a point, in coordinates -/

/-- The first two conditionals run at the first query half. -/
theorem cond1_iff (i : grid1.Coords) : k1_cond1 i = 1#1 ↔ (i 0).val = 0 := by
  have h : ∀ n : Fin 2, (Scalar.cmpi .ne (Scalar.extui (Scalar.cmpi .eq (BitVec.ofNat 32 n.val) 0#32) : BitVec 32) 0#32 = 1#1) ↔ n.val = 0 := by
    decide
  exact h (i 0)

/-- The last key tile. -/
theorem cond4_iff (i : grid1.Coords) : k1_cond4 i = 1#1 ↔ (i 1).val = 3 := by
  have h : ∀ n : Fin 4, (Scalar.cmpi .ne (Scalar.extui (Scalar.cmpi .eq (BitVec.ofNat 32 n.val) 3#32) : BitVec 32) 0#32 = 1#1) ↔ n.val = 3 := by
    decide
  exact h (i 1)

/-- The first key tile. -/
theorem cond3_iff (i : grid1.Coords) :
    Scalar.cmpi .ne (Scalar.extui (Scalar.cmpi .eq (BitVec.ofNat 32 (i 1).val) 0#32) : BitVec 32) 0#32 = 1#1 ↔ (i 1).val = 0 := by
  have h : ∀ n : Fin 4, (Scalar.cmpi .ne (Scalar.extui (Scalar.cmpi .eq (BitVec.ofNat 32 n.val) 0#32) : BitVec 32) 0#32 = 1#1) ↔ n.val = 0 := by
    decide
  exact h (i 1)

/-- The second query half. -/
theorem cond6_iff (i : grid1.Coords) : k1_cond6 i = 1#1 ↔ (i 0).val ≠ 0 := by
  have h : ∀ n : Fin 2, (Scalar.cmpi .ne (Scalar.extui (Scalar.cmpi .eq (BitVec.ofNat 32 n.val) 1#32) : BitVec 32) 0#32 = 1#1) ↔ n.val ≠ 0 := by
    decide
  exact h (i 0)

/-- The slab a point stores and loads starts at its key tile. -/
theorem off1_eq (i : grid1.Coords) : k1_off1 i = ![(i 1).val, 0, 0] := by
  have h : ∀ n : Fin 4, (Scalar.indexCast (BitVec.ofNat 32 n.val)).toNat = n.val := by decide
  unfold k1_off1
  exact congrArg (fun n : ℕ => (![n, 0, 0] : Fin 3 → ℕ)) (h (i 1))

/-- The slab a point loads for the product starts at its key tile, like the one it stores. -/
theorem off2_eq (i : grid1.Coords) : k1_off2 i = ![(i 1).val, 0, 0] := off1_eq i

/-! ## What a point stores -/

/-- The key tile of the unfolded rows, from the two blocks of the key image. -/
def kTile (x2 x3 : Vec F S10x64x1024 .bf16) : FVec F S1x1664x1024 .bf16 :=
  k1_pay1 (k1_pay34 (k1_pay16 x2) (k1_pay17 x3) (k1_pay18 x2) (k1_pay19 x2) (k1_pay20 x2) (k1_pay21 x2) (k1_pay22 x2)
    (k1_pay23 x2) (k1_pay24 x2) (k1_pay25 x2) (k1_pay26 x2) (k1_pay27 x2) (k1_pay28 x2 x3) (k1_pay29 x2 x3) (k1_pay30 x2 x3)
    (k1_pay31 x2 x3) (k1_pay32 x2 x3) (k1_pay33 x2 x3))

/-- The query columns of the unfolded rows, from the two blocks of the query image. -/
def qTile (x4 x5 : Vec F S10x64x2048 .bf16) : FVec F S1664x2048 .bf16 :=
  k1_pay13 (k1_pay12 (k1_pay37 x4) (k1_pay38 x4) (k1_pay39 x4) (k1_pay40 x4) (k1_pay41 x4) (k1_pay42 x4) (k1_pay43 x4) (k1_pay44 x4)
    (k1_pay45 x4) (k1_pay46 x4) (k1_pay47 x4 x5) (k1_pay48 x4 x5) (k1_pay49 x4 x5) (k1_pay50 x4 x5) (k1_pay51 x4 x5) (k1_pay52 x4 x5)
    (k1_pay3 (k1_pay35 x4) (k1_pay36 x5)) (k1_pay4 (k1_pay35 x4) (k1_pay36 x5)) (k1_pay5 (k1_pay35 x4) (k1_pay36 x5))
    (k1_pay6 (k1_pay35 x4) (k1_pay36 x5)) (k1_pay7 (k1_pay35 x4) (k1_pay36 x5)) (k1_pay8 (k1_pay35 x4) (k1_pay36 x5))
    (k1_pay9 (k1_pay35 x4) (k1_pay36 x5)) (k1_pay10 (k1_pay35 x4) (k1_pay36 x5)) (k1_pay11 (k1_pay35 x4) (k1_pay36 x5)))

/-- The last complete group of 64 lanes of a key tile. -/
def tailLd {α : Type} (T : S1x1664x1024.Idx → α) : S1x1664x64.Idx → α := fun y =>
  T (ix3 (0 : Fin 1) (⟨(y 1).val, (y 1).isLt⟩ : Fin 1664)
    (⟨896 + (y 2).val, by have h : (y 2).val < 64 := (y 2).isLt; omega⟩ : Fin 1024))

/-- A key tile with its last 64 lanes replaced by `W`. -/
def tailed {α : Type} (T : S1x1664x1024.Idx → α) (W : S1x1664x64.Idx → α) : S1x1664x1024.Idx → α := fun y =>
  if h : 960 ≤ (y 2).val then
    W (ix3 (0 : Fin 1) (⟨(y 1).val, (y 1).isLt⟩ : Fin 1664)
      (⟨(y 2).val - 960, by have h : (y 2).val < 1024 := (y 2).isLt; omega⟩ : Fin 64))
  else T y

/-- A stack of key tiles with slab `a` replaced. -/
def slabPut {α : Type} (a : ℕ) (T : S1x1664x1024.Idx → α) (X : S4x1664x1024.Idx → α) : S4x1664x1024.Idx → α := fun y =>
  if (y 0).val = a then
    T (ix3 (0 : Fin 1) (⟨(y 1).val, (y 1).isLt⟩ : Fin 1664) (⟨(y 2).val, (y 2).isLt⟩ : Fin 1024))
  else X y

/-- A stack of key tiles, slab `i 1`. -/
def slabGet {α : Type} (i : grid1.Coords) (X : S4x1664x1024.Idx → α) : S1x1664x1024.Idx → α := fun y =>
  X (ix3 (⟨(i 1).val, (i 1).isLt⟩ : Fin 4) (⟨(y 1).val, (y 1).isLt⟩ : Fin 1664) (⟨(y 2).val, (y 2).isLt⟩ : Fin 1024))

/-- The key tile a point of the first query half stores: the last one with its last lanes doubled. -/
def slabVal (i : grid1.Coords) (x2 x3 : Vec F S10x64x1024 .bf16) : Vec F S1x1664x1024 .bf16 :=
  if (i 1).val = 3 then tailed (kTile x2 x3) (k1_pay2 (tailLd (kTile x2 x3))) else kTile x2 x3

/-- The stack of key tiles after a point. -/
def knNext (i : grid1.Coords) (x2 x3 : Vec F S10x64x1024 .bf16) (X7 : Vec F S4x1664x1024 .bf16) : Vec F S4x1664x1024 .bf16 :=
  if (i 0).val = 0 then slabPut (i 1).val (slabVal i x2 x3) X7 else X7

/-- The key tile a point multiplies. -/
def slabUse (i : grid1.Coords) (x2 x3 : Vec F S10x64x1024 .bf16) (X7 : Vec F S4x1664x1024 .bf16) : Vec F S1x1664x1024 .bf16 :=
  if (i 0).val = 0 then slabVal i x2 x3 else slabGet i X7

/-- The query columns after a point. -/
def qmNext (i : grid1.Coords) (x4 x5 : Vec F S10x64x2048 .bf16) (X8 : Vec F S1664x2048 .bf16) : Vec F S1664x2048 .bf16 :=
  if (i 1).val = 0 then qTile x4 x5 else X8

/-- The running column maxima after a point. -/
def accNext (i : grid1.Coords) (x2 x3 : Vec F S10x64x1024 .bf16) (x4 x5 : Vec F S10x64x2048 .bf16) (X7 : Vec F S4x1664x1024 .bf16)
    (X8 : Vec F S1664x2048 .bf16) (X9 : Vec F S1x2048 .f32) : Vec F S1x2048 .f32 :=
  k1_pay14 i (slabUse i x2 x3 X7) (qmNext i x4 x5 X8) X9

/-- The result's first 32 rows replaced. -/
def topPut {α : Type} (P : S1x1x32x63.Idx → α) (X : S1x1x63x63.Idx → α) : S1x1x63x63.Idx → α := fun y =>
  if h : (y 2).val < 32 then P (ix4 (0 : Fin 1) (0 : Fin 1) (⟨(y 2).val, h⟩ : Fin 32) (⟨(y 3).val, (y 3).isLt⟩ : Fin 63)) else X y

/-- The result's last 31 rows replaced. -/
def botPut {α : Type} (P : S1x1x31x63.Idx → α) (X : S1x1x63x63.Idx → α) : S1x1x63x63.Idx → α := fun y =>
  if h : 32 ≤ (y 2).val then
    P (ix4 (0 : Fin 1) (0 : Fin 1) (⟨(y 2).val - 32, by have h : (y 2).val < 63 := (y 2).isLt; omega⟩ : Fin 31)
      (⟨(y 3).val, (y 3).isLt⟩ : Fin 63))
  else X y

/-- The result's block after a point, from the query columns `Q` and the column maxima `A` the point leaves. -/
def outNext (i : grid1.Coords) (Q : Vec F S1664x2048 .bf16) (A : Vec F S1x2048 .f32) (X6 : Vec F S1x1x63x63 .f32) : Vec F S1x1x63x63 .f32 :=
  if (i 1).val = 3 then
    if (i 0).val = 0 then topPut (k1_pay54 Q A) X6 else botPut (k1_pay15 (k1_pay53 Q A)) X6
  else X6

/-! ## Reads of what a point stored -/

section Reads

variable {Val : EltTy → Type}

/-- A load of all the query columns is the query columns. -/
theorem ld_whole8 {e : EltTy} (X : S1664x2048.Idx → Val e) (inb) :
    View.ld (S := S1664x2048) X (Rect.unit ![0, 0] S1664x2048.size inb) = X := by
  funext y
  refine congrArg X (funext fun a => Fin.ext ?_)
  match a with
  | ⟨0, _⟩ => exact (Nat.zero_add _).trans (Nat.one_mul _)
  | ⟨1, _⟩ => exact (Nat.zero_add _).trans (Nat.one_mul _)

/-- A load of all the running maxima is the running maxima. -/
theorem ld_whole9 {e : EltTy} (X : S1x2048.Idx → Val e) (inb) :
    View.ld (S := S1x2048) X (Rect.unit ![0, 0] S1x2048.size inb) = X := by
  funext y
  refine congrArg X (funext fun a => Fin.ext ?_)
  match a with
  | ⟨0, _⟩ => exact (Nat.zero_add _).trans (Nat.one_mul _)
  | ⟨1, _⟩ => exact (Nat.zero_add _).trans (Nat.one_mul _)

/-- A load of a whole key block is the block. -/
theorem ld_whole10 {e : EltTy} (X : S10x64x1024.Idx → Val e) (inb) :
    View.ld (S := S10x64x1024) X (Rect.unit ![0, 0, 0] S10x64x1024.size inb) = X := by
  funext y
  refine congrArg X (funext fun a => Fin.ext ?_)
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- A load of a whole query block is the block. -/
theorem ld_whole20 {e : EltTy} (X : S10x64x2048.Idx → Val e) (inb) :
    View.ld (S := S10x64x2048) X (Rect.unit ![0, 0, 0] S10x64x2048.size inb) = X := by
  funext y
  refine congrArg X (funext fun a => Fin.ext ?_)
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

variable {sig' : RefSig} {κ : Kind} {sp : Space}

/-- After a store over all the query columns they are what was stored. -/
theorem read_whole8 {e : EltTy} (v : View sig' κ sp S1664x2048 e) (f : v.ty.Contents Val) (inb) (P : S1664x2048.Idx → Val e) :
    v.read Val (v.writes Val f [⟨Rect.unit ![0, 0] S1664x2048.size inb, P⟩]) = P := by
  funext y
  refine View.read_writes_cons_unit_of_mem v f inb P [] y y rfl fun a => ?_
  match a with
  | ⟨0, _⟩ => exact (Nat.zero_add _).symm
  | ⟨1, _⟩ => exact (Nat.zero_add _).symm

/-- After a store over all the running maxima they are what was stored. -/
theorem read_whole9 {e : EltTy} (v : View sig' κ sp S1x2048 e) (f : v.ty.Contents Val) (inb) (P : S1x2048.Idx → Val e) :
    v.read Val (v.writes Val f [⟨Rect.unit ![0, 0] S1x2048.size inb, P⟩]) = P := by
  funext y
  refine View.read_writes_cons_unit_of_mem v f inb P [] y y rfl fun a => ?_
  match a with
  | ⟨0, _⟩ => exact (Nat.zero_add _).symm
  | ⟨1, _⟩ => exact (Nat.zero_add _).symm

/-- A store of a key tile replaces its slab of the stack. -/
theorem read_slab {e : EltTy} (v : View sig' κ sp S4x1664x1024 e) (f : v.ty.Contents Val) (i : grid1.Coords) (inb)
    (T : S1x1664x1024.Idx → Val e) :
    v.read Val (v.writes Val f [⟨Rect.unit (k1_off1 i) S1x1664x1024.size inb, T⟩]) = slabPut (i 1).val T (v.read Val f) := by
  funext y
  unfold slabPut
  by_cases h : (y 0).val = (i 1).val
  · rw [if_pos h]
    refine View.read_writes_cons_unit_of_mem v f inb T [] y (ix3 _ _ _) (off1_eq i) fun a => ?_
    match a with
    | ⟨0, _⟩ => exact h
    | ⟨1, _⟩ => exact (Nat.zero_add _).symm
    | ⟨2, _⟩ => exact (Nat.zero_add _).symm
  · rw [if_neg h]
    refine (View.read_writes_cons_unit_of_not_mem v f inb T [] y (off1_eq i) (0 : Fin 3) ?_).trans rfl
    show (y 0).val < (i 1).val ∨ (i 1).val + 1 ≤ (y 0).val
    omega

/-- A store of the last key tile and then of its last 64 lanes replaces its slab by the tile with those lanes replaced. -/
theorem read_slab_tail {e : EltTy} (v : View sig' κ sp S4x1664x1024 e) (f : v.ty.Contents Val) (i : grid1.Coords) (hi : (i 1).val = 3) (inb) (inb')
    (T : S1x1664x1024.Idx → Val e) (W : S1x1664x64.Idx → Val e) :
    v.read Val (v.writes Val f [⟨Rect.unit ![3, 0, 960] S1x1664x64.size inb', W⟩, ⟨Rect.unit (k1_off1 i) S1x1664x1024.size inb, T⟩])
      = slabPut (i 1).val (tailed T W) (v.read Val f) := by
  funext y
  have hy0 : (y 0).val < 4 := (y 0).isLt
  have hy1 : (y 1).val < 1664 := (y 1).isLt
  have hy2 : (y 2).val < 1024 := (y 2).isLt
  by_cases h : (y 0).val = 3 ∧ 960 ≤ (y 2).val
  · unfold slabPut tailed
    rw [if_pos (h.1.trans hi.symm), dif_pos h.2]
    refine View.read_writes_cons_unit_of_mem v f inb' W _ y (ix3 _ _ _) rfl fun a => ?_
    match a with
    | ⟨0, _⟩ => exact h.1
    | ⟨1, _⟩ => exact (Nat.zero_add _).symm
    | ⟨2, _⟩ => show (y 2).val = 960 + ((y 2).val - 960); omega
  · have hm : v.read Val (v.writes Val f [⟨Rect.unit ![3, 0, 960] S1x1664x64.size inb', W⟩, ⟨Rect.unit (k1_off1 i) S1x1664x1024.size inb, T⟩]) y
        = v.read Val (v.writes Val f [⟨Rect.unit (k1_off1 i) S1x1664x1024.size inb, T⟩]) y := by
      by_cases h0 : (y 0).val = 3
      · refine View.read_writes_cons_unit_of_not_mem v f inb' W _ y rfl (2 : Fin 3) ?_
        show (y 2).val < 960 ∨ 960 + 64 ≤ (y 2).val
        omega
      · refine View.read_writes_cons_unit_of_not_mem v f inb' W _ y rfl (0 : Fin 3) ?_
        show (y 0).val < 3 ∨ 3 + 1 ≤ (y 0).val
        omega
    rw [hm, read_slab]
    unfold slabPut tailed
    by_cases h0 : (y 0).val = (i 1).val
    · rw [if_pos h0, if_pos h0, dif_neg]
      intro h2
      exact h ⟨h0.trans hi, h2⟩
    · rw [if_neg h0, if_neg h0]

/-- A load of the slab of a point's key tile. -/
theorem ld_slabGet {e : EltTy} (i : grid1.Coords) (inb) (X : S4x1664x1024.Idx → Val e) :
    View.ld (S := S4x1664x1024) X (Rect.unit (k1_off2 i) S1x1664x1024.size inb) = slabGet i X := by
  funext y
  have hy0 : (y 0).val < 1 := (y 0).isLt
  refine congrArg X (funext fun a => Fin.ext ?_)
  have ho := fun a => congrFun (off2_eq i) a
  match a with
  | ⟨0, _⟩ =>
    show k1_off2 i 0 + 1 * (y 0).val = (i 1).val
    rw [ho]; show (i 1).val + 1 * (y 0).val = (i 1).val; omega
  | ⟨1, _⟩ =>
    show k1_off2 i 1 + 1 * (y 1).val = (y 1).val
    rw [ho]; show 0 + 1 * (y 1).val = (y 1).val; omega
  | ⟨2, _⟩ =>
    show k1_off2 i 2 + 1 * (y 2).val = (y 2).val
    rw [ho]; show 0 + 1 * (y 2).val = (y 2).val; omega

/-- The slab just put into a stack is what was put. -/
theorem slabGet_slabPut {α : Type} (i : grid1.Coords) (T : S1x1664x1024.Idx → α) (X : S4x1664x1024.Idx → α) :
    slabGet i (slabPut (i 1).val T X) = T := by
  funext y
  unfold slabGet slabPut
  rw [if_pos rfl]
  refine congrArg T (funext fun a => Fin.ext ?_)
  have hy0 : (y 0).val < 1 := (y 0).isLt
  match a with
  | ⟨0, _⟩ => show 0 = (y 0).val; omega
  | ⟨1, _⟩ => rfl
  | ⟨2, _⟩ => rfl

/-- A load, from a stack with the last key tile put, of the 64 lanes before that tile's last 64. -/
theorem ld_tail {e : EltTy} (i : grid1.Coords) (hi : (i 1).val = 3) (inb) (T : S1x1664x1024.Idx → Val e) (X : S4x1664x1024.Idx → Val e) :
    View.ld (S := S4x1664x1024) (slabPut (i 1).val T X) (Rect.unit ![3, 0, 896] S1x1664x64.size inb) = tailLd T := by
  funext y
  have hy0 : (y 0).val < 1 := (y 0).isLt
  unfold View.ld slabPut tailLd
  rw [if_pos (by show 3 + 1 * (y 0).val = (i 1).val; omega)]
  refine congrArg T (funext fun a => Fin.ext ?_)
  match a with
  | ⟨0, _⟩ => rfl
  | ⟨1, _⟩ => show 0 + 1 * (y 1).val = (y 1).val; omega
  | ⟨2, _⟩ => show 896 + 1 * (y 2).val = 896 + (y 2).val; omega

/-- A store over the first 32 rows of the result replaces those rows. -/
theorem read_top {e : EltTy} (v : View sig' κ sp S1x1x63x63 e) (f : v.ty.Contents Val) (inb) (P : S1x1x32x63.Idx → Val e) :
    v.read Val (v.writes Val f [⟨Rect.unit ![0, 0, 0, 0] S1x1x32x63.size inb, P⟩]) = topPut P (v.read Val f) := by
  funext y
  have hy0 : (y 0).val < 1 := (y 0).isLt
  have hy1 : (y 1).val < 1 := (y 1).isLt
  unfold topPut
  by_cases h : (y 2).val < 32
  · rw [dif_pos h]
    refine View.read_writes_cons_unit_of_mem v f inb P [] y (ix4 _ _ _ _) rfl fun a => ?_
    match a with
    | ⟨0, _⟩ => show (y 0).val = 0 + 0; omega
    | ⟨1, _⟩ => show (y 1).val = 0 + 0; omega
    | ⟨2, _⟩ => exact (Nat.zero_add _).symm
    | ⟨3, _⟩ => exact (Nat.zero_add _).symm
  · rw [dif_neg h]
    refine (View.read_writes_cons_unit_of_not_mem v f inb P [] y rfl (2 : Fin 4) ?_).trans rfl
    show (y 2).val < 0 ∨ 0 + 32 ≤ (y 2).val
    omega

/-- A store over the last 31 rows of the result replaces those rows. -/
theorem read_bot {e : EltTy} (v : View sig' κ sp S1x1x63x63 e) (f : v.ty.Contents Val) (inb) (P : S1x1x31x63.Idx → Val e) :
    v.read Val (v.writes Val f [⟨Rect.unit ![0, 0, 32, 0] S1x1x31x63.size inb, P⟩]) = botPut P (v.read Val f) := by
  funext y
  have hy0 : (y 0).val < 1 := (y 0).isLt
  have hy1 : (y 1).val < 1 := (y 1).isLt
  have hy2 : (y 2).val < 63 := (y 2).isLt
  unfold botPut
  by_cases h : 32 ≤ (y 2).val
  · rw [dif_pos h]
    refine View.read_writes_cons_unit_of_mem v f inb P [] y (ix4 _ _ _ _) rfl fun a => ?_
    match a with
    | ⟨0, _⟩ => show (y 0).val = 0 + 0; omega
    | ⟨1, _⟩ => show (y 1).val = 0 + 0; omega
    | ⟨2, _⟩ => show (y 2).val = 32 + ((y 2).val - 32); omega
    | ⟨3, _⟩ => exact (Nat.zero_add _).symm
  · rw [dif_neg h]
    refine (View.read_writes_cons_unit_of_not_mem v f inb P [] y rfl (2 : Fin 4) ?_).trans rfl
    show (y 2).val < 32 ∨ 32 + 31 ≤ (y 2).val
    omega

end Reads

/-! ## The same, at the loads and stores of a point -/

/-- A load of a whole key block. -/
def L10 (X : Vec F S10x64x1024 .bf16) : Vec F S10x64x1024 .bf16 :=
  View.ld (S := S10x64x1024) X (Rect.unit ![0, 0, 0] S10x64x1024.size inb_S10x64x1024_S10x64x1024_0_0_0)

/-- A load of a whole query block. -/
def L20 (X : Vec F S10x64x2048 .bf16) : Vec F S10x64x2048 .bf16 :=
  View.ld (S := S10x64x2048) X (Rect.unit ![0, 0, 0] S10x64x2048.size inb_S10x64x2048_S10x64x2048_0_0_0)

/-- The key tile of two loaded blocks is that of the blocks. -/
theorem kTile_ld (X2 X3 : Vec F S10x64x1024 .bf16) : kTile (L10 X2) (L10 X3) = kTile X2 X3 :=
  congrArg₂ kTile (ld_whole10 X2 _) (ld_whole10 X3 _)

/-- The query columns of two loaded blocks are those of the blocks. -/
theorem qTile_ld (X4 X5 : Vec F S10x64x2048 .bf16) : qTile (L20 X4) (L20 X5) = qTile X4 X5 :=
  congrArg₂ qTile (ld_whole20 X4 _) (ld_whole20 X5 _)

section Steps

variable {sig' : RefSig} {κ : Kind} {sp : Space}

/-- The writes a point of the first query half makes to the stack of key tiles, before the last tile. -/
def kWrites (i : grid1.Coords) (inb : ∀ a, (k1_off1 i) a + S1x1664x1024.size a ≤ S4x1664x1024.size a) (X2 X3 : Vec F S10x64x1024 .bf16) : List (View.Piece (Elt F) S4x1664x1024 .bf16) :=
  [⟨Rect.unit (k1_off1 i) S1x1664x1024.size inb, kTile (L10 X2) (L10 X3)⟩]

/-- The same at the last tile: its last 64 lanes are stored a second time, over what was loaded (from contents `g`). -/
def kWritesLast (v : View sig' κ sp S4x1664x1024 .bf16) (g : v.ty.Contents (Elt F)) (i : grid1.Coords)
    (inb : ∀ a, (k1_off1 i) a + S1x1664x1024.size a ≤ S4x1664x1024.size a)
    (X2 X3 : Vec F S10x64x1024 .bf16) : List (View.Piece (Elt F) S4x1664x1024 .bf16) :=
  ⟨Rect.unit ![3, 0, 960] S1x1664x64.size inb_S4x1664x1024_S1x1664x64_3_0_960,
    k1_pay2 (View.ld (S := S4x1664x1024) (v.read (Elt F) (v.writes (Elt F) g (kWrites i inb X2 X3)))
      (Rect.unit ![3, 0, 896] S1x1664x64.size inb_S4x1664x1024_S1x1664x64_3_0_896))⟩ :: kWrites i inb X2 X3

/-- The stack of key tiles after a point of the first query half, before the last tile. -/
theorem kn_first (v : View sig' κ sp S4x1664x1024 .bf16) (f : v.ty.Contents (Elt F)) (i : grid1.Coords) (h0 : (i 0).val = 0)
    (h3 : ¬ (i 1).val = 3) (inb) (X2 X3 : Vec F S10x64x1024 .bf16) :
    v.read (Elt F) (v.writes (Elt F) f (kWrites i inb X2 X3)) = knNext i X2 X3 (v.read (Elt F) f) := by
  unfold kWrites
  rw [read_slab, kTile_ld, knNext, if_pos h0, slabVal, if_neg h3]

/-- The stack of key tiles after the last tile's point of the first query half. -/
theorem kn_last (v : View sig' κ sp S4x1664x1024 .bf16) (f g : v.ty.Contents (Elt F)) (i : grid1.Coords) (h0 : (i 0).val = 0)
    (h3 : (i 1).val = 3) (inb) (X2 X3 : Vec F S10x64x1024 .bf16) :
    v.read (Elt F) (v.writes (Elt F) f (kWritesLast v g i inb X2 X3)) = knNext i X2 X3 (v.read (Elt F) f) := by
  unfold kWritesLast kWrites
  rw [read_slab_tail v f i h3, read_slab, kTile_ld, ld_tail i h3, knNext, if_pos h0, slabVal, if_pos h3]

/-- A point of the second query half leaves the stack of key tiles alone. -/
theorem kn_later (i : grid1.Coords) (h0 : ¬ (i 0).val = 0) (X2 X3 : Vec F S10x64x1024 .bf16) (X7 : Vec F S4x1664x1024 .bf16) :
    X7 = knNext i X2 X3 X7 := by
  rw [knNext, if_neg h0]

/-- What slab a point loads of the stack it leaves. -/
theorem slabGet_knNext (i : grid1.Coords) (X2 X3 : Vec F S10x64x1024 .bf16) (X7 X7' : Vec F S4x1664x1024 .bf16)
    (h : ¬ (i 0).val = 0 → X7 = X7') : slabGet i (knNext i X2 X3 X7) = slabUse i X2 X3 X7' := by
  unfold knNext slabUse
  by_cases h0 : (i 0).val = 0
  · rw [if_pos h0, if_pos h0, slabGet_slabPut]
  · rw [if_neg h0, if_neg h0, h h0]

/-- The key tile that a point of the first query half loads back, before the last tile. -/
theorem use_first (v : View sig' κ sp S4x1664x1024 .bf16) (f : v.ty.Contents (Elt F)) (i : grid1.Coords) (h0 : (i 0).val = 0)
    (h3 : ¬ (i 1).val = 3) (inb) (inb') (X2 X3 : Vec F S10x64x1024 .bf16) (X7 : Vec F S4x1664x1024 .bf16) :
    View.ld (S := S4x1664x1024) (v.read (Elt F) (v.writes (Elt F) f (kWrites i inb X2 X3))) (Rect.unit (k1_off2 i) S1x1664x1024.size inb')
      = slabUse i X2 X3 X7 := by
  rw [kn_first v f i h0 h3, ld_slabGet]
  exact slabGet_knNext i X2 X3 _ _ fun h => absurd h0 h

/-- The key tile that the last tile's point of the first query half loads back. -/
theorem use_last (v : View sig' κ sp S4x1664x1024 .bf16) (f g : v.ty.Contents (Elt F)) (i : grid1.Coords) (h0 : (i 0).val = 0)
    (h3 : (i 1).val = 3) (inb) (inb') (X2 X3 : Vec F S10x64x1024 .bf16) (X7 : Vec F S4x1664x1024 .bf16) :
    View.ld (S := S4x1664x1024) (v.read (Elt F) (v.writes (Elt F) f (kWritesLast v g i inb X2 X3)))
      (Rect.unit (k1_off2 i) S1x1664x1024.size inb') = slabUse i X2 X3 X7 := by
  rw [kn_last v f g i h0 h3, ld_slabGet]
  exact slabGet_knNext i X2 X3 _ _ fun h => absurd h0 h

/-- The key tile that a point of the second query half loads. -/
theorem use_later (i : grid1.Coords) (h0 : ¬ (i 0).val = 0) (inb') (X2 X3 : Vec F S10x64x1024 .bf16) (X7 : Vec F S4x1664x1024 .bf16) :
    View.ld (S := S4x1664x1024) X7 (Rect.unit (k1_off2 i) S1x1664x1024.size inb') = slabUse i X2 X3 X7 := by
  rw [ld_slabGet, slabUse, if_neg h0]

/-- The write a point of the first key tile makes to the query columns. -/
def qWrites (X4 X5 : Vec F S10x64x2048 .bf16) : List (View.Piece (Elt F) S1664x2048 .bf16) :=
  [⟨Rect.unit ![0, 0] S1664x2048.size inb_S1664x2048_S1664x2048_0_0, qTile (L20 X4) (L20 X5)⟩]

/-- The query columns after a point of the first key tile. -/
theorem qm_first (v : View sig' κ sp S1664x2048 .bf16) (f : v.ty.Contents (Elt F)) (i : grid1.Coords) (h1 : (i 1).val = 0)
    (X4 X5 : Vec F S10x64x2048 .bf16) (X8 : Vec F S1664x2048 .bf16) :
    v.read (Elt F) (v.writes (Elt F) f (qWrites X4 X5)) = qmNext i X4 X5 X8 := by
  unfold qWrites
  rw [read_whole8, qTile_ld, qmNext, if_pos h1]

/-- A point of a later key tile leaves the query columns alone. -/
theorem qm_later (i : grid1.Coords) (h1 : ¬ (i 1).val = 0) (X4 X5 : Vec F S10x64x2048 .bf16) (X8 : Vec F S1664x2048 .bf16) :
    X8 = qmNext i X4 X5 X8 := by
  rw [qmNext, if_neg h1]

/-- The query columns that a point of the first key tile loads back. -/
theorem quse_first (v : View sig' κ sp S1664x2048 .bf16) (f : v.ty.Contents (Elt F)) (i : grid1.Coords) (h1 : (i 1).val = 0)
    (X4 X5 : Vec F S10x64x2048 .bf16) (X8 : Vec F S1664x2048 .bf16) :
    View.ld (S := S1664x2048) (v.read (Elt F) (v.writes (Elt F) f (qWrites X4 X5)))
      (Rect.unit ![0, 0] S1664x2048.size inb_S1664x2048_S1664x2048_0_0) = qmNext i X4 X5 X8 :=
  (ld_whole8 _ _).trans (qm_first v f i h1 X4 X5 X8)

/-- The query columns that a point of a later key tile loads. -/
theorem quse_later (i : grid1.Coords) (h1 : ¬ (i 1).val = 0) (X4 X5 : Vec F S10x64x2048 .bf16) (X8 : Vec F S1664x2048 .bf16) :
    View.ld (S := S1664x2048) X8 (Rect.unit ![0, 0] S1664x2048.size inb_S1664x2048_S1664x2048_0_0) = qmNext i X4 X5 X8 :=
  (ld_whole8 _ _).trans (qm_later i h1 X4 X5 X8)

/-- The write a point makes to the running maxima, over the key tile `A` and the query columns `B` it loads. -/
def aWrites (i : grid1.Coords) (A : Vec F S1x1664x1024 .bf16) (B : Vec F S1664x2048 .bf16) (X9 : Vec F S1x2048 .f32) :
    List (View.Piece (Elt F) S1x2048 .f32) :=
  [⟨Rect.unit ![0, 0] S1x2048.size inb_S1x2048_S1x2048_0_0,
    k1_pay14 i A B (View.ld (S := S1x2048) X9 (Rect.unit ![0, 0] S1x2048.size inb_S1x2048_S1x2048_0_0))⟩]

/-- The running maxima after a point. -/
theorem acc_next (v : View sig' κ sp S1x2048 .f32) (f : v.ty.Contents (Elt F)) (i : grid1.Coords) (A : Vec F S1x1664x1024 .bf16)
    (B : Vec F S1664x2048 .bf16) (X2 X3 : Vec F S10x64x1024 .bf16) (X4 X5 : Vec F S10x64x2048 .bf16) (X7 : Vec F S4x1664x1024 .bf16)
    (X8 : Vec F S1664x2048 .bf16) (X9 : Vec F S1x2048 .f32) (hA : A = slabUse i X2 X3 X7) (hB : B = qmNext i X4 X5 X8) :
    v.read (Elt F) (v.writes (Elt F) f (aWrites i A B X9)) = accNext i X2 X3 X4 X5 X7 X8 X9 := by
  unfold aWrites
  rw [read_whole9, ld_whole9, hA, hB, accNext]

/-- The running maxima that a point loads back. -/
theorem acc_use (v : View sig' κ sp S1x2048 .f32) (f : v.ty.Contents (Elt F)) (i : grid1.Coords) (A : Vec F S1x1664x1024 .bf16)
    (B : Vec F S1664x2048 .bf16) (X2 X3 : Vec F S10x64x1024 .bf16) (X4 X5 : Vec F S10x64x2048 .bf16) (X7 : Vec F S4x1664x1024 .bf16)
    (X8 : Vec F S1664x2048 .bf16) (X9 : Vec F S1x2048 .f32) (hA : A = slabUse i X2 X3 X7) (hB : B = qmNext i X4 X5 X8) :
    View.ld (S := S1x2048) (v.read (Elt F) (v.writes (Elt F) f (aWrites i A B X9))) (Rect.unit ![0, 0] S1x2048.size inb_S1x2048_S1x2048_0_0)
      = accNext i X2 X3 X4 X5 X7 X8 X9 :=
  (ld_whole9 _ _).trans (acc_next v f i A B X2 X3 X4 X5 X7 X8 X9 hA hB)

/-- The result after the last key tile's point of the first query half. -/
theorem out_top (v : View sig' κ sp S1x1x63x63 .f32) (f : v.ty.Contents (Elt F)) (i : grid1.Coords) (h0 : (i 0).val = 0) (h3 : (i 1).val = 3)
    (B Q : Vec F S1664x2048 .bf16) (A M : Vec F S1x2048 .f32) (hB : B = Q) (hA : A = M) :
    v.read (Elt F) (v.writes (Elt F) f [⟨Rect.unit ![0, 0, 0, 0] S1x1x32x63.size inb_S1x1x63x63_S1x1x32x63_0_0_0_0, k1_pay54 B A⟩])
      = outNext i Q M (v.read (Elt F) f) := by
  rw [read_top, outNext, if_pos h3, if_pos h0, hB, hA]

/-- The result after the last key tile's point of the second query half. -/
theorem out_bot (v : View sig' κ sp S1x1x63x63 .f32) (f : v.ty.Contents (Elt F)) (i : grid1.Coords) (h0 : ¬ (i 0).val = 0) (h3 : (i 1).val = 3)
    (B Q : Vec F S1664x2048 .bf16) (A M : Vec F S1x2048 .f32) (hB : B = Q) (hA : A = M) :
    v.read (Elt F) (v.writes (Elt F) f [⟨Rect.unit ![0, 0, 32, 0] S1x1x31x63.size inb_S1x1x63x63_S1x1x31x63_0_0_32_0, k1_pay15 (k1_pay53 B A)⟩])
      = outNext i Q M (v.read (Elt F) f) := by
  rw [read_bot, outNext, if_pos h3, if_neg h0, hB, hA]

/-- A point before the last key tile leaves the result alone. -/
theorem out_idle (i : grid1.Coords) (h3 : ¬ (i 1).val = 3) (Q : Vec F S1664x2048 .bf16) (M : Vec F S1x2048 .f32)
    (X6 : Vec F S1x1x63x63 .f32) : X6 = outNext i Q M X6 := by
  rw [outNext, if_neg h3]

end Steps

end Cert.KernelIdeal.Sim
end
-- ==== Proof.SimTriple.lean ====
/- The triple of one grid point of the similarity region, its buffers before and after told by what they read. -/
module

public import proofs.«01_k».proof.Proof.SimStep

@[expose] public section

set_option maxRecDepth 16384

noncomputable section

namespace Cert.KernelIdeal.Sim
open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- One grid point of the similarity region: the input blocks stay, and the result's block, the stack of key tiles, the query columns and
    the running maxima become the point's functions of what they read before. -/
theorem step (c : Dev nD) (E : Set ℕ) (i : grid1.Coords)
    (arg2 : Memref sig .tc .vmem S10x64x1024 .bf16) (harg2 : arg2.IsWhole) (arg3 : Memref sig .tc .vmem S10x64x1024 .bf16) (harg3 : arg3.IsWhole)
    (arg4 : Memref sig .tc .vmem S10x64x2048 .bf16) (harg4 : arg4.IsWhole) (arg5 : Memref sig .tc .vmem S10x64x2048 .bf16) (harg5 : arg5.IsWhole)
    (arg6 : Memref sig .tc .vmem S1x1x63x63 .f32) (harg6 : arg6.IsWhole) (arg7 : Memref sig .tc .vmem S4x1664x1024 .bf16) (harg7 : arg7.IsWhole)
    (arg8 : Memref sig .tc .vmem S1664x2048 .bf16) (harg8 : arg8.IsWhole) (arg9 : Memref sig .tc .vmem S1x2048 .f32) (harg9 : arg9.IsWhole)
    (x2 x3 : Vec F S10x64x1024 .bf16) (x4 x5 : Vec F S10x64x2048 .bf16) (x6 : Vec F S1x1x63x63 .f32) (x7 : Vec F S4x1664x1024 .bf16)
    (x8 : Vec F S1664x2048 .bf16) (x9 : Vec F S1x2048 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9
        ∗ (iprop(owns (c : Thread nD τ) arg2 fullShare x2 ∗ owns (c : Thread nD τ) arg3 fullShare x3 ∗ owns (c : Thread nD τ) arg4 fullShare x4
          ∗ owns (c : Thread nD τ) arg5 fullShare x5
          ∗ owns (c : Thread nD τ) arg6 fullShare (outNext i (qmNext i x4 x5 x8) (accNext i x2 x3 x4 x5 x7 x8 x9) x6)
          ∗ owns (c : Thread nD τ) arg7 fullShare (knNext i x2 x3 x7) ∗ owns (c : Thread nD τ) arg8 fullShare (qmNext i x4 x5 x8)
          ∗ owns (c : Thread nD τ) arg9 fullShare (accNext i x2 x3 x4 x5 x7 x8 x9)) -∗ K ⟨⟩))
      ⊢ wp frame (wpE (defs₀ (F := F)) Variants.none c none) E
          (cc1__sim_body i arg2 harg2 arg3 harg3 arg4 harg4 arg5 harg5 arg6 harg6 arg7 harg7 arg8 harg8 arg9 harg9) K := by
  simp only [cc1__sim_body_eq_skeleton]; unfold cc1__sim_body_skel
  simp only [k1_part1_eq_skeleton, k1_part2_eq_skeleton, k1_part3_eq_skeleton, k1_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  have E1 := cond1_iff i
  have E3 := cond3_iff i
  have E4 := cond4_iff i
  have E6 := cond6_iff i
  have hlt0 : (i 0).val < 2 := (i 0).isLt
  have hlt1 : (i 1).val < 4 := (i 1).isLt
  by_cases h0 : (i 0).val = 0 <;> by_cases h1 : (i 1).val = 0 <;> by_cases h3 : (i 1).val = 3
  all_goals try (exfalso; omega)
  all_goals
    first
    | have c1 : k1_cond1 i = 1#1 := E1.2 h0
      have c5 : k1_cond5 i = 1#1 := E1.2 h0
      have c6 : ¬ k1_cond6 i = 1#1 := fun h => E6.1 h h0
    | have c1 : ¬ k1_cond1 i = 1#1 := fun h => h0 (E1.1 h)
      have c5 : ¬ k1_cond5 i = 1#1 := fun h => h0 (E1.1 h)
      have c6 : k1_cond6 i = 1#1 := E6.2 h0
  all_goals
    first
    | have c3 := E3.2 h1
    | have c3 := fun h => h1 (E3.1 h)
  all_goals
    first
    | have c4 : k1_cond4 i = 1#1 := E4.2 h3
      have c2 : Scalar.cmpi .ne (Scalar.extui (Scalar.cmpi .eq (BitVec.ofNat 32 (i 1).val) 3#32) : BitVec 32) 0#32 = 1#1 := E4.2 h3
    | have c4 : ¬ k1_cond4 i = 1#1 := fun h => h3 (E4.1 h)
      have c2 : ¬ Scalar.cmpi .ne (Scalar.extui (Scalar.cmpi .eq (BitVec.ofNat 32 (i 1).val) 3#32) : BitVec 32) 0#32 = 1#1 := fun h => h3 (E4.1 h)
  all_goals clear E1 E3 E4 E6
  all_goals sl_exec
  all_goals sl_step
  all_goals iapply Hk
  all_goals
    isplitl [H2]
    · iexists f2; isplitr
      · ipureintro; rfl
      iexact H2
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists _; isplitr
      swap
      · iexact H6
      ipureintro
      first
      | exact out_idle i h3 _ _ _
      | exact out_top arg6.view f6 i h0 h3 _ _ _ _ (quse_later i h1 _ _ _)
          (acc_use arg9.view _ i _ _ _ _ _ _ _ _ _ (use_last arg7.view _ _ i h0 h3 (k1_off1_inb i c1) _ (arg2.view.read (Elt F) f2) (arg3.view.read (Elt F) f3) _)
            (quse_later i h1 _ _ _))
      | exact out_bot arg6.view f6 i h0 h3 _ _ _ _ (quse_later i h1 _ _ _)
          (acc_use arg9.view _ i _ _ _ _ _ _ _ _ _ (use_later i h0 _ _ _ _) (quse_later i h1 _ _ _))
    isplitl [H7]
    · iexists _; isplitr
      swap
      · iexact H7
      ipureintro
      first
      | exact kn_later i h0 _ _ _
      | exact kn_first arg7.view f7 i h0 h3 (k1_off1_inb i c1) (arg2.view.read (Elt F) f2) (arg3.view.read (Elt F) f3)
      | exact kn_last arg7.view f7 _ i h0 h3 (k1_off1_inb i c1) (arg2.view.read (Elt F) f2) (arg3.view.read (Elt F) f3)
    isplitl [H8]
    · iexists _; isplitr
      swap
      · iexact H8
      ipureintro
      first
      | exact qm_later i h1 _ _ _
      | exact qm_first arg8.view f8 i h1 (arg4.view.read (Elt F) f4) (arg5.view.read (Elt F) f5) _
    iexists _; isplitr
    swap
    · iexact H9
    ipureintro
    first
    | exact acc_next arg9.view f9 i _ _ _ _ _ _ _ _ _ (use_later i h0 _ _ _ _) (quse_later i h1 _ _ _)
    | exact acc_next arg9.view f9 i _ _ _ _ _ _ _ _ _ (use_later i h0 _ _ _ _)
        (quse_first arg8.view _ i h1 (arg4.view.read (Elt F) f4) (arg5.view.read (Elt F) f5) _)
    | exact acc_next arg9.view f9 i _ _ _ _ _ _ _ _ _
        (use_first arg7.view _ i h0 h3 (k1_off1_inb i c1) _ (arg2.view.read (Elt F) f2) (arg3.view.read (Elt F) f3) _)
        (quse_later i h1 _ _ _)
    | exact acc_next arg9.view f9 i _ _ _ _ _ _ _ _ _
        (use_first arg7.view _ i h0 h3 (k1_off1_inb i c1) _ (arg2.view.read (Elt F) f2) (arg3.view.read (Elt F) f3) _)
        (quse_first arg8.view _ i h1 (arg4.view.read (Elt F) f4) (arg5.view.read (Elt F) f5) _)
    | exact acc_next arg9.view f9 i _ _ _ _ _ _ _ _ _
        (use_last arg7.view _ _ i h0 h3 (k1_off1_inb i c1) _ (arg2.view.read (Elt F) f2) (arg3.view.read (Elt F) f3) _)
        (quse_later i h1 _ _ _)

end Cert.KernelIdeal.Sim
end
-- ==== Proof.PrepStep.lean ====
/-
  The shift-image kernel, one point of one: what it stores over the two packed images, its triple, and the proof data of its region.
-/
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.KernelIdeal.Prep
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-! ## What the body stores -/

/-- The whole packed image a body loads. -/
def whole (x : Vec F S64x128x128 .bf16) : Vec F S64x128x128 .bf16 :=
  View.ld x (Rect.unit (s := S64x128x128) ![0, 0, 0] S64x128x128.size inb_S64x128x128_S64x128x128_0_0_0)

/-- The shift image of offset `k` in the stack of ten. -/
abbrev shiftRect (k : ℕ) (inb : ∀ a, (![k, 0, 0, 0] : Fin 4 → ℕ) a + S1x64x96x64.size a ≤ S10x64x96x64.size a) : Rect S10x64x96x64 :=
  Rect.unit (s := S10x64x96x64) ![k, 0, 0, 0] S1x64x96x64.size inb

/-- Ten stores, one for each shift image, the last first. -/
def tenStores (p9 p8 p7 p6 p5 p4 p3 p2 p1 p0 : Vec F S1x64x96x64 .bf16) : List (View.Piece (Elt F) S10x64x96x64 .bf16) :=
  [⟨shiftRect 9 inb_S10x64x96x64_S1x64x96x64_9_0_0_0, p9⟩,
   ⟨shiftRect 8 inb_S10x64x96x64_S1x64x96x64_8_0_0_0, p8⟩,
   ⟨shiftRect 7 inb_S10x64x96x64_S1x64x96x64_7_0_0_0, p7⟩,
   ⟨shiftRect 6 inb_S10x64x96x64_S1x64x96x64_6_0_0_0, p6⟩,
   ⟨shiftRect 5 inb_S10x64x96x64_S1x64x96x64_5_0_0_0, p5⟩,
   ⟨shiftRect 4 inb_S10x64x96x64_S1x64x96x64_4_0_0_0, p4⟩,
   ⟨shiftRect 3 inb_S10x64x96x64_S1x64x96x64_3_0_0_0, p3⟩,
   ⟨shiftRect 2 inb_S10x64x96x64_S1x64x96x64_2_0_0_0, p2⟩,
   ⟨shiftRect 1 inb_S10x64x96x64_S1x64x96x64_1_0_0_0, p1⟩,
   ⟨shiftRect 0 inb_S10x64x96x64_S1x64x96x64_0_0_0_0, p0⟩]

/-- The ten stores reach every index of the stack. -/
theorem tenStores_cover (p9 p8 p7 p6 p5 p4 p3 p2 p1 p0 : Vec F S1x64x96x64 .bf16) (y : S10x64x96x64.Idx) :
    ∃ pc ∈ tenStores p9 p8 p7 p6 p5 p4 p3 p2 p1 p0, y ∈ pc.1.set :=
  View.cover_of_tiled (tenStores p9 p8 p7 p6 p5 p4 p3 p2 p1 p0) S1x64x96x64.size (by rfl) y

/-- The shift images of the first packed image `W`. -/
def storesK (W : Vec F S64x128x128 .bf16) : List (View.Piece (Elt F) S10x64x96x64 .bf16) :=
  tenStores
    (k0_pay27 k0_pay10 (k0_pay19 (k0_pay5 W) k0_pay8 k0_pay9))
    (k0_pay26 k0_pay10 (k0_pay20 (k0_pay4 W) k0_pay7 k0_pay9))
    (k0_pay25 k0_pay10 (k0_pay19 (k0_pay5 W) k0_pay8 k0_pay9))
    (k0_pay24 k0_pay10 (k0_pay22 (k0_pay4 W) k0_pay7 k0_pay9) (k0_pay23 (k0_pay4 W) k0_pay7 k0_pay9))
    (k0_pay21 (k0_pay5 W) k0_pay8 k0_pay9 k0_pay10)
    (k0_pay18 k0_pay10 (k0_pay11 W))
    (k0_pay17 k0_pay10 (k0_pay12 W))
    (k0_pay16 (k0_pay15 W))
    (k0_pay14 W)
    (k0_pay13 W)

/-- The shift images of the second packed image `W`. -/
def storesQ (W : Vec F S64x128x128 .bf16) : List (View.Piece (Elt F) S10x64x96x64 .bf16) :=
  tenStores
    (k0_pay3 k0_pay34 (k0_pay43 (k0_pay29 W) (k0_pay32 k0_pay30) k0_pay33))
    (k0_pay2 k0_pay34 (k0_pay44 (k0_pay28 W) (k0_pay31 k0_pay30) k0_pay33))
    (k0_pay1 k0_pay34 (k0_pay43 (k0_pay29 W) (k0_pay32 k0_pay30) k0_pay33))
    (k0_pay46 (k0_pay28 W) (k0_pay31 k0_pay30) k0_pay33 k0_pay34)
    (k0_pay45 (k0_pay29 W) (k0_pay32 k0_pay30) k0_pay33 k0_pay34)
    (k0_pay42 k0_pay34 (k0_pay35 (k0_pay29 W) k0_pay30))
    (k0_pay41 k0_pay34 (k0_pay40 (k0_pay28 W) k0_pay30))
    (k0_pay39 (k0_pay29 W) k0_pay30)
    (k0_pay38 (k0_pay28 W) k0_pay30)
    (k0_pay37 (k0_pay29 W) k0_pay30)

/-- The first output after the body. -/
def imagesK (x : Vec F S64x128x128 .bf16) : Vec F S10x64x96x64 .bf16 := View.canon (storesK (whole x))

/-- The second output after the body. -/
def imagesQ (x : Vec F S64x128x128 .bf16) : Vec F S10x64x96x64 .bf16 := View.canon (storesQ (whole x))

/-! ## The triple -/

set_option maxHeartbeats 1000000 in
/-- The body on whole buffers: the two inputs are left as they were, the two outputs hold the shift images. -/
theorem step (c : Dev nD) (E : Set ℕ) (arg0 : Memref sig .tc .vmem S64x128x128 .bf16) (harg0 : arg0.IsWhole)
    (arg1 : Memref sig .tc .vmem S64x128x128 .bf16) (harg1 : arg1.IsWhole)
    (arg2 : Memref sig .tc .vmem S10x64x96x64 .bf16) (harg2 : arg2.IsWhole)
    (arg3 : Memref sig .tc .vmem S10x64x96x64 .bf16) (harg3 : arg3.IsWhole)
    (x0 x1 : Vec F S64x128x128 .bf16) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
            ∗ owns (c : Thread nD τ) arg2 fullShare (imagesK x0) ∗ owns (c : Thread nD τ) arg3 fullShare (imagesQ x1)) -∗ K ⟨⟩))
      ⊢ wp frame (wpE (defs₀ (F := F)) Variants.none c none) E (cc0__prep_body arg0 harg0 arg1 harg1 arg2 harg2 arg3 harg3) K := by
  simp only [cc0__prep_body_eq_skeleton]; unfold cc0__prep_body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (tenStores_cover _ _ _ _ _ _ _ _ _ _)).trans ?_
    rfl
  iexists _; isplitr
  swap; · iexact H3
  ipureintro
  refine (View.read_writes_eq_canon _ _ _ (tenStores_cover _ _ _ _ _ _ _ _ _ _)).trans ?_
  rfl

/-! ## The region's proof data -/

variable (m : (ℓ : Loc nD τ sig) → Buf (Elt F) ℓ)

/-- A window's block at a point, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The region's data: inputs stay at their blocks, outputs end at the shift images. -/
def dat (c : Dev nD) : Dat τ (Elt F) Unit ℕ (UR sig nD τ) ℕ cfg0 c where
  A w := V1 m c (Pipeline.arrRef spec0 w)
  after w t := match w with
    | ⟨0, _⟩ => block m c 0 t
    | ⟨1, _⟩ => block m c 1 t
    | ⟨2, _⟩ => imagesK (block m c 0 t)
    | ⟨3, _⟩ => imagesQ (block m c 1 t)
  Φ _ := Pipeline.scopedRest spec0 c
  q _ := fullShare
  owed _ := 0

/-- The data's arrays are what the region finds. -/
theorem dat_A (c : Dev nD) (w : Fin cfg0.W) : (dat m c).A w = V1 m c (Pipeline.arrRef spec0 w) := by dsimp only [dat]
/-- The first input after the body. -/
theorem dat_after0 (c : Dev nD) (t : Fin cfg0.N) : (dat m c).after 0 t = block m c 0 t := by dsimp only [dat]
/-- The second input after the body. -/
theorem dat_after1 (c : Dev nD) (t : Fin cfg0.N) : (dat m c).after 1 t = block m c 1 t := by dsimp only [dat]
/-- The first output after the body. -/
theorem dat_after2 (c : Dev nD) (t : Fin cfg0.N) : (dat m c).after 2 t = imagesK (block m c 0 t) := by dsimp only [dat]
/-- The second output after the body. -/
theorem dat_after3 (c : Dev nD) (t : Fin cfg0.N) : (dat m c).after 3 t = imagesQ (block m c 1 t) := by dsimp only [dat]

/-- The body finds the first input's block. -/
theorem dat_before0 (c : Dev nD) (t : Fin cfg0.N) (d) : (dat m c).before 0 t d = block m c 0 t :=
  ((dat m c).before_in_eq_fetched 0 rfl (fun _ => rfl) (fun _ _ _ => rfl)
    (fun t => by rw [dat_after0]; unfold Dat.blockOf block; rw [dat_A]; try rfl) t d).trans
    (by unfold Dat.fetched Dat.blockOf block; rw [dat_A]; try rfl)
/-- The body finds the second input's block. -/
theorem dat_before1 (c : Dev nD) (t : Fin cfg0.N) (d) : (dat m c).before 1 t d = block m c 1 t :=
  ((dat m c).before_in_eq_fetched 1 rfl (fun _ => rfl) (fun _ _ _ => rfl)
    (fun t => by rw [dat_after1]; unfold Dat.blockOf block; rw [dat_A]; try rfl) t d).trans
    (by unfold Dat.fetched Dat.blockOf block; rw [dat_A]; try rfl)

/-- The body at a point, between the buffers as found and as left. -/
theorem step_at (c : Dev nD) (t : Fin cfg0.N) :
    iprop((dat m c).Φ t.castSucc ∗ (dat m c).owesAt () t.castSucc
      ∗ (∃ d, owns (c : Thread nD τ) (st0_0 t) fullShare ((dat m c).before 0 t d))
      ∗ (∃ d, owns (c : Thread nD τ) (st0_1 t) fullShare ((dat m c).before 1 t d))
      ∗ (∃ d, owns (c : Thread nD τ) (st0_2 t) fullShare ((dat m c).before 2 t d))
      ∗ (∃ d, owns (c : Thread nD τ) (st0_3 t) fullShare ((dat m c).before 3 t d)))
    ⊢ wp frame (wpE (defs₀ (F := F)) Variants.none c none) Set.univ (bodyAt0 t) (fun _ =>
      iprop((dat m c).Φ t.succ ∗ (dat m c).owesAt () t.succ
        ∗ owns (c : Thread nD τ) (st0_0 t) fullShare ((dat m c).after 0 t)
        ∗ owns (c : Thread nD τ) (st0_1 t) fullShare ((dat m c).after 1 t)
        ∗ owns (c : Thread nD τ) (st0_2 t) fullShare ((dat m c).after 2 t)
        ∗ owns (c : Thread nD τ) (st0_3 t) fullShare ((dat m c).after 3 t))) := by
  unfold bodyAt0
  simp only [dat_before0, dat_before1]
  rw [show (dat m c).Φ t.succ = (dat m c).Φ t.castSucc from rfl,
    show (dat m c).owesAt () t.succ = (dat m c).owesAt () t.castSucc from rfl,
    dat_after0, dat_after1, dat_after2, dat_after3]
  iintro ⟨HΦ, Ho, ⟨%d0, H0⟩, ⟨%d1, H1⟩, ⟨%d2, H2⟩, ⟨%d3, H3⟩⟩
  iapply (step c Set.univ _ _ _ _ _ _ _ _ (block m c 0 t) (block m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body the region calls at a point. -/
theorem body_row (t : Fin cfg0.N) : defs₀ (F := F) .tc cfg0.body (cfg0.bodyArgs t (cfg0.slots t)) = bodyAt0 t := by
  unfold defs₀; rw [Defs.onTc_tc]

/-- The region's body obligation. -/
theorem obligation (c : Dev nD) : BodyObligation (dat (F := F) m c) (defs₀ (F := F)) Variants.none () Set.univ := fun t => by
  rw [bigSep_W0, bigSep_W0, body_row]
  exact triple_restated (step_at m c t) rfl .rfl fun _ => .rfl

end Cert.KernelIdeal.Prep
-- ==== Proof.SimRegion.lean ====
/- The similarity region: what its scratch buffers and its result hold between grid points, its proof data and its body obligation. -/
module

public import proofs.«01_k».proof.Proof.SimTriple
public import proofs.«01_k».proof.Proof.PrepStep

@[expose] public section

set_option maxRecDepth 16384

noncomputable section

namespace Cert.KernelIdeal.Sim
open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F] [Named F]

local notation "𝕄" => MT nD τ sig Unit (Elt F) ℕ (UR sig nD τ) ℕ

/-! ## What is known between points -/

/-- Predicates kept along the grid over given input blocks: `Inv n` of the three scratch buffers before point `n`, `Out t` of the
    result's block after point `t`. -/
structure Track (b0 b1 : Fin cfg1.N → Vec F S10x64x1024 .bf16) (b2 b3 : Fin cfg1.N → Vec F S10x64x2048 .bf16) where
  /-- Of the stack of key tiles, the query columns and the running maxima. -/
  Inv : ℕ → Vec F S4x1664x1024 .bf16 → Vec F S1664x2048 .bf16 → Vec F S1x2048 .f32 → Prop
  /-- Of the result's block. -/
  Out : Fin cfg1.N → Vec F S1x1x63x63 .f32 → Prop
  /-- Nothing is asked of the scratch buffers at the start. -/
  start : ∀ X7 X8 X9, Inv 0 X7 X8 X9
  /-- A point keeps both. -/
  next : ∀ (t : Fin cfg1.N) X7 X8 X9 X6, Inv t.val X7 X8 X9 → (∀ s : Fin cfg1.N, s.val + 1 = t.val → Out s X6) →
    Inv (t.val + 1) (knNext (grid1.coords t) (b0 t) (b1 t) X7) (qmNext (grid1.coords t) (b2 t) (b3 t) X8)
        (accNext (grid1.coords t) (b0 t) (b1 t) (b2 t) (b3 t) X7 X8 X9)
      ∧ Out t (outNext (grid1.coords t) (qmNext (grid1.coords t) (b2 t) (b3 t) X8)
        (accNext (grid1.coords t) (b0 t) (b1 t) (b2 t) (b3 t) X7 X8 X9) X6)

/-- The predicates that hold of everything. -/
def Track.trivial (b0 b1 : Fin cfg1.N → Vec F S10x64x1024 .bf16) (b2 b3 : Fin cfg1.N → Vec F S10x64x2048 .bf16) : Track b0 b1 b2 b3 where
  Inv _ _ _ _ := True
  Out _ _ := True
  start _ _ _ := True.intro
  next _ _ _ _ _ _ _ := ⟨True.intro, True.intro⟩

/-! ## The region's data -/

variable (m : (ℓ : Loc nD τ sig) → Buf (Elt F) ℓ) (outs : Outs (F := F))

/-- A window's block at a point, read off the contents the region finds. -/
def block (c : Dev nD) (w : Fin cfg1.W) (t : Fin cfg1.N) : ((cfg1.win w).xblock (cfg1.grid.coords t)).Idx → Elt F (cfg1.win w).elt :=
  ((cfg1.win w).blk t).view.read (Elt F) (V3 m outs c (Pipeline.arrRef spec1 w))

/-- The predicates kept over the blocks the region finds. -/
abbrev Kept (c : Dev nD) : Type :=
  Track (F := F) (block m outs c 0) (block m outs c 1) (block m outs c 2) (block m outs c 3)

variable {m outs}

/-- What no window stages, other than the scratch buffers. -/
def rest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f))

/-- The scratch buffers before point `n`, and what rides along. -/
def inv {c : Dev nD} (T : Kept m outs c) (n : ℕ) : sProp 𝕄 :=
  iprop((∃ X7 X8 X9, ⌜T.Inv n X7 X8 X9⌝ ∗ owns (c : Thread nD τ) (Memref.whole cc1_scratch0) fullShare X7
      ∗ owns (c : Thread nD τ) (Memref.whole cc1_scratch1) fullShare X8 ∗ owns (c : Thread nD τ) (Memref.whole cc1_scratch2) fullShare X9)
    ∗ rest c)

/-- Before the first point the scratch buffers may hold anything. -/
theorem inv_start {c : Dev nD} (T : Kept m outs c) :
    (Pipeline.scopedRest (Ix := Unit) (Name := ℕ) (U := UR sig nD τ) (Lvl := ℕ) (Val := Elt F) spec1 c : sProp 𝕄) ⊢ inv T 0 := by
  rw [scopedRest1_eq]
  unfold inv rest
  simp only [owns_whole_eq]
  iintro ⟨H0, H1, H2, H3, ⟨%f7, H7⟩, ⟨%f8, H8⟩, ⟨%f9, H9⟩⟩
  isplitl [H7 H8 H9]
  · iexists f7; iexists f8; iexists f9
    isplitr; · ipureintro; exact T.start _ _ _
    isplitl [H7]
    · iexists f7; isplitr; · ipureintro; rfl
      iexact H7
    isplitl [H8]
    · iexists f8; isplitr; · ipureintro; rfl
      iexact H8
    iexists f9; isplitr; · ipureintro; rfl
    iexact H9
  isplitl [H0]; · iexact H0
  isplitl [H1]; · iexact H1
  isplitl [H2]; · iexact H2
  iexact H3

/-- After the last point they go back. -/
theorem inv_end {c : Dev nD} (T : Kept m outs c) (n : ℕ) :
    inv T n ⊢ (Pipeline.scopedRest (Ix := Unit) (Name := ℕ) (U := UR sig nD τ) (Lvl := ℕ) (Val := Elt F) spec1 c : sProp 𝕄) := by
  rw [scopedRest1_eq]
  unfold inv rest
  simp only [owns_whole_eq]
  iintro ⟨⟨%X7, %X8, %X9, -, ⟨%f7, -, H7⟩, ⟨%f8, -, H8⟩, ⟨%f9, -, H9⟩⟩, H0, H1, H2, H3⟩
  isplitl [H0]; · iexact H0
  isplitl [H1]; · iexact H1
  isplitl [H2]; · iexact H2
  isplitl [H3]; · iexact H3
  isplitl [H7]; · iexists f7; iexact H7
  isplitl [H8]; · iexists f8; iexact H8
  iexists f9; iexact H9

/-- The region's data: inputs stay at their blocks; of the result's block no value is named. -/
def dat {c : Dev nD} (T : Kept m outs c) : Dat τ (Elt F) Unit ℕ (UR sig nD τ) ℕ cfg1 c where
  A w := V3 m outs c (Pipeline.arrRef spec1 w)
  after w t := match w with
    | ⟨0, _⟩ => block m outs c 0 t
    | ⟨1, _⟩ => block m outs c 1 t
    | ⟨2, _⟩ => block m outs c 2 t
    | ⟨3, _⟩ => block m outs c 3 t
    | ⟨4, _⟩ => fun _ => Classical.arbitrary _
  Φ n := inv T n.val
  q w := Pipeline.shareOf spec1 w
  owed _ := 0

/-- The result's window is held to a predicate. -/
def marked : Fin cfg1.W → Bool
  | ⟨4, _⟩ => true
  | _ => false

/-- The predicate the result's window is held to. -/
def held {c : Dev nD} (T : Kept m outs c) : (w : Fin cfg1.W) → Fin cfg1.N → ((cfg1.win w).block.Idx → Elt F (cfg1.win w).elt) → Prop
  | ⟨4, _⟩ => fun t X => T.Out t X
  | _ => fun _ _ => True

/-- The same as relational data. -/
abbrev rdat {c : Dev nD} (T : Kept m outs c) : RDat τ (Elt F) Unit ℕ (UR sig nD τ) ℕ cfg1 c := (dat T).toRRel marked (held T)

variable {c : Dev nD} (T : Kept m outs c)

/-- The data's arrays are what the region finds. -/
theorem dat_A (w : Fin cfg1.W) : (dat T).A w = V3 m outs c (Pipeline.arrRef spec1 w) := by dsimp only [dat]
/-- The keys' block after the body. -/
theorem dat_after0 (t : Fin cfg1.N) : (dat T).after 0 t = block m outs c 0 t := by dsimp only [dat]
/-- The keys' next block after the body. -/
theorem dat_after1 (t : Fin cfg1.N) : (dat T).after 1 t = block m outs c 1 t := by dsimp only [dat]
/-- The queries' block after the body. -/
theorem dat_after2 (t : Fin cfg1.N) : (dat T).after 2 t = block m outs c 2 t := by dsimp only [dat]
/-- The queries' next block after the body. -/
theorem dat_after3 (t : Fin cfg1.N) : (dat T).after 3 t = block m outs c 3 t := by dsimp only [dat]

/-- The body finds the keys' block. -/
theorem dat_before0 (t : Fin cfg1.N) (d) : (dat T).before 0 t d = block m outs c 0 t :=
  ((dat T).before_in_eq_fetched 0 rfl (fun _ => rfl) (fun _ _ _ => rfl)
    (fun t => by rw [dat_after0]; unfold Dat.blockOf block; rw [dat_A]; try rfl) t d).trans
    (by unfold Dat.fetched Dat.blockOf block; rw [dat_A]; try rfl)
/-- The body finds the keys' next block. -/
theorem dat_before1 (t : Fin cfg1.N) (d) : (dat T).before 1 t d = block m outs c 1 t :=
  ((dat T).before_in_eq_fetched 1 rfl (fun _ => rfl) (fun _ _ _ => rfl)
    (fun t => by rw [dat_after1]; unfold Dat.blockOf block; rw [dat_A]; try rfl) t d).trans
    (by unfold Dat.fetched Dat.blockOf block; rw [dat_A]; try rfl)
/-- The body finds the queries' block. -/
theorem dat_before2 (t : Fin cfg1.N) (d) : (dat T).before 2 t d = block m outs c 2 t :=
  ((dat T).before_in_eq_fetched 2 rfl (fun _ => rfl) (fun _ _ _ => rfl)
    (fun t => by rw [dat_after2]; unfold Dat.blockOf block; rw [dat_A]; try rfl) t d).trans
    (by unfold Dat.fetched Dat.blockOf block; rw [dat_A]; try rfl)
/-- The body finds the queries' next block. -/
theorem dat_before3 (t : Fin cfg1.N) (d) : (dat T).before 3 t d = block m outs c 3 t :=
  ((dat T).before_in_eq_fetched 3 rfl (fun _ => rfl) (fun _ _ _ => rfl)
    (fun t => by rw [dat_after3]; unfold Dat.blockOf block; rw [dat_A]; try rfl) t d).trans
    (by unfold Dat.fetched Dat.blockOf block; rw [dat_A]; try rfl)

/-- What may be left in the result's block meets its predicate. -/
theorem out_of_leaves (t : Fin cfg1.N) (X : Vec F S1x1x63x63 .f32) (h : (rdat T).Leaves 4 t X) : T.Out t X :=
  (dat T).toRRel_leaves (fgt := marked) (Rl := held T) (w := 4) rfl h

/-- What may be found in the result's block met the previous point's predicate. -/
theorem out_of_finds (t s : Fin cfg1.N) (hs : s.val + 1 = t.val) (X : Vec F S1x1x63x63 .f32) (h : (rdat T).Finds 4 t X) : T.Out s X := by
  have ht : 0 < t.val := by omega
  have hN : t.val < 8 := lt_of_lt_of_eq t.isLt N_1
  have hf : (cfg1.win 4).fetch t = false := by
    rw [Bool.eq_false_iff]; intro hh; exact absurd hh (by simp [Pipeline.Window.fetch])
  rcases ((rdat T).finds_of_pos hf (by omega) X).mp h with hfl | hl
  · exfalso
    have := (flush1_4 ⟨t.val - 1, _⟩).mp hfl
    simp only at this; omega
  · have e : (⟨t.val - 1, by omega⟩ : Fin cfg1.N) = s := Fin.ext (by simp only; omega)
    exact out_of_leaves T s X (e ▸ hl)

/-- The body at a point, between the buffers as found and as left. -/
theorem step_at (t : Fin cfg1.N) :
    iprop((dat T).Φ t.castSucc ∗ (dat T).owesAt () t.castSucc
      ∗ (∃ d, owns (c : Thread nD τ) (st1_0 t) fullShare ((dat T).before 0 t d))
      ∗ (∃ d, owns (c : Thread nD τ) (st1_1 t) fullShare ((dat T).before 1 t d))
      ∗ (∃ d, owns (c : Thread nD τ) (st1_2 t) fullShare ((dat T).before 2 t d))
      ∗ (∃ d, owns (c : Thread nD τ) (st1_3 t) fullShare ((dat T).before 3 t d))
      ∗ (∃ Y, ⌜(rdat T).Finds 4 t Y⌝ ∗ owns (c : Thread nD τ) (st1_4 t) fullShare Y))
    ⊢ wp frame (wpE (defs₀ (F := F)) Variants.none c none) Set.univ (bodyAt1 t) (fun _ =>
      iprop((dat T).Φ t.succ ∗ (dat T).owesAt () t.succ
        ∗ owns (c : Thread nD τ) (st1_0 t) fullShare ((dat T).after 0 t)
        ∗ owns (c : Thread nD τ) (st1_1 t) fullShare ((dat T).after 1 t)
        ∗ owns (c : Thread nD τ) (st1_2 t) fullShare ((dat T).after 2 t)
        ∗ owns (c : Thread nD τ) (st1_3 t) fullShare ((dat T).after 3 t)
        ∗ (∃ X, ⌜T.Out t X⌝ ∗ owns (c : Thread nD τ) (st1_4 t) fullShare X))) := by
  unfold bodyAt1
  simp only [dat_before0, dat_before1, dat_before2, dat_before3]
  rw [show (dat T).Φ t.succ = inv T (t.val + 1) from rfl, show (dat T).Φ t.castSucc = inv T t.val from rfl,
    show (dat T).owesAt () t.succ = (dat T).owesAt () t.castSucc from rfl,
    dat_after0, dat_after1, dat_after2, dat_after3]
  unfold inv
  iintro ⟨⟨⟨%X7, %X8, %X9, %hI, H7, H8, H9⟩, Hr⟩, Ho, ⟨%d0, H0⟩, ⟨%d1, H1⟩, ⟨%d2, H2⟩, ⟨%d3, H3⟩, ⟨%Y, %hY, H4⟩⟩
  have hn := T.next t X7 X8 X9 Y hI (fun s hs => out_of_finds T t s hs Y hY)
  iapply (step c Set.univ (grid1.coords t) _ _ _ _ _ _ _ _ _ _ _ _ _ _ _ _ (block m outs c 0 t) (block m outs c 1 t) (block m outs c 2 t)
    (block m outs c 3 t) Y X7 X8 X9 _)
  isplitl [H0]; · iexact H0
  isplitl [H1]; · iexact H1
  isplitl [H2]; · iexact H2
  isplitl [H3]; · iexact H3
  isplitl [H4]; · iexact H4
  isplitl [H7]; · iexact H7
  isplitl [H8]; · iexact H8
  isplitl [H9]; · iexact H9
  iintro ⟨H0, H1, H2, H3, H4, H7, H8, H9⟩
  isplitl [H7 H8 H9 Hr]
  · isplitl [H7 H8 H9]
    · iexists _; iexists _; iexists _
      isplitr; · ipureintro; exact hn.1
      isplitl [H7]; · iexact H7
      isplitl [H8]; · iexact H8
      iexact H9
    iexact Hr
  isplitl [Ho]; · iexact Ho
  isplitl [H0]; · iexact H0
  isplitl [H1]; · iexact H1
  isplitl [H2]; · iexact H2
  isplitl [H3]; · iexact H3
  iexists _
  isplitr; · ipureintro; exact hn.2
  iexact H4

/-- The body the region calls at a point. -/
theorem body_row (t : Fin cfg1.N) : defs₀ (F := F) .tc cfg1.body (cfg1.bodyArgs t (cfg1.slots t)) = bodyAt1 t := by
  unfold defs₀; rw [Defs.onTc_tc]

/-- The region's body obligation. -/
theorem obligation : BodyObligationRel (dat T) (defs₀ (F := F)) Variants.none () Set.univ marked (held T) := fun t => by
  rw [bigSep_W1, bigSep_W1, body_row]
  exact triple_restated (step_at T t) rfl .rfl fun _ => .rfl

end Cert.KernelIdeal.Sim
-- ==== Proof.Run.lean ====
/- The launch: the two regions' records between the host operations, and the run of the whole program. -/
module

public import proofs.«01_k».proof.Proof.SimRegion
public import Idealize.ShloMosaic.Lib.Pipeline.ArrRel
public import Idealize.ShloMosaic.Lib.Pipeline.RegionsLoop

@[expose] public section

set_option maxRecDepth 16384

noncomputable section

namespace Cert.KernelIdeal.Run
open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F] [Named F]

local notation "𝕄" => MT nD τ sig Unit (Elt F) ℕ (UR sig nD τ) ℕ

variable (m : (ℓ : Loc nD τ sig) → Buf (Elt F) ℓ)

/-! ## What the regions leave -/

/-- What the first region leaves in its two results. -/
def outs : Outs (F := F) := fun _ r c =>
  Function.update (β := fun r : Ref sig .tc => Buf (Elt F) ((c : Thread nD τ).loc r))
    (Function.update (β := fun r : Ref sig .tc => Buf (Elt F) ((c : Thread nD τ).loc r))
      (fun r => m ((c : Thread nD τ).loc r)) main_v10_0 ((Prep.dat m c).arrAt 2 cfg0.N))
    main_v10_1 ((Prep.dat m c).arrAt 3 cfg0.N) r

/-- The keys' shift images. -/
theorem outs_keys (c : Dev nD) (j : ℕ) : outs m j main_v10_0 c = (Prep.dat m c).arrAt 2 cfg0.N := by
  unfold outs
  rw [Function.update_of_ne (by decide), Function.update_self]

/-- The queries' shift images. -/
theorem outs_queries (c : Dev nD) (j : ℕ) : outs m j main_v10_1 c = (Prep.dat m c).arrAt 3 cfg0.N := by
  unfold outs
  rw [Function.update_self]

variable {m}
variable (T : (c : Dev nD) → Sim.Kept m (outs m) c)

/-- The exact data of the two regions. -/
def dats : (p : Fin 2) → (c : Dev nD) → Dat τ (Elt F) Unit ℕ (UR sig nD τ) ℕ (cfgs p) c
  | ⟨0, _⟩ => fun c => Prep.dat m c
  | ⟨1, _⟩ => fun c => Sim.dat (T c)
  | ⟨_ + 2, h⟩ => absurd h (Nat.not_lt.2 (Nat.le_add_left _ _))

/-- The relational data of the two regions. -/
def rdats : (p : Fin 2) → (c : Dev nD) → RDat τ (Elt F) Unit ℕ (UR sig nD τ) ℕ (cfgs p) c
  | ⟨0, _⟩ => fun c => (Prep.dat m c).toR
  | ⟨1, _⟩ => fun c => Sim.rdat (T c)
  | ⟨_ + 2, h⟩ => absurd h (Nat.not_lt.2 (Nat.le_add_left _ _))

/-- No core owes another anything. -/
abbrev L : GSem nD τ sig → Finset Unit := fun _ => ∅
/-- No level is assigned. -/
abbrev lv : GSem nD τ sig → Unit → ℕ := fun _ _ => 0

/-- What rides beside the buffers: the core's dues, none. -/
abbrev R (c : Dev nD) : sProp 𝕄 := iprop(∃ W, owes (c : Thread nD τ) (0 : CellTallies nD τ sig Unit) W)

/-- No region of this program has semaphores of its own. -/
abbrev noSem : Fin 0 → SemLoc sig := fun k => k.elim0

/-- The final contents with `G` in the result's array. -/
def final (c : Dev nD) (G : Buf (Elt F) ((c : Thread nD τ).loc main_v13)) : Valuation τ sig (Elt F) :=
  Function.update (V3 m (outs m) c) (Proc.devRef .tc main_v13) G

/-- The result's array is a block that the last point may leave. -/
def Good {c : Dev nD} (T : Sim.Kept m (outs m) c) (G : Buf (Elt F) ((c : Thread nD τ).loc main_v13)) : Prop :=
  ∃ X : Vec F S1x1x63x63 .f32, T.Out t1_7 X ∧ G = X

/-- What the program ends with. -/
def last (c : Dev nD) : sProp 𝕄 :=
  iprop(∃ G : Buf (Elt F) ((c : Thread nD τ).loc main_v13), ⌜Good (T c) G⌝
    ∗ StableHlo.held (c : Thread nD τ) (Pipeline.ucRefs τ sig) (final (m := m) c G))

/-! ## The first region -/

/-- The first region's arrays at its end are the second valuation's. -/
theorem first_arrays (c : Dev nD) (w : Fin cfg0.W) :
    (Prep.dat m c).arrAt w cfg0.N = V2 m (outs m) c (Pipeline.arrRef spec0 w) := by
  match w with
  | ⟨0, _⟩ =>
    exact ((Prep.dat m c).arrAt_in 0 rfl _).trans ((Prep.dat_A m c 0).trans (V2_of m (outs m) c main_v4 (by decide)).symm)
  | ⟨1, _⟩ =>
    exact ((Prep.dat m c).arrAt_in 1 rfl _).trans ((Prep.dat_A m c 1).trans (V2_of m (outs m) c main_v9 (by decide)).symm)
  | ⟨2, _⟩ =>
    refine (outs_keys m c 2).symm.trans ?_
    show outs m 2 main_v10_0 c = V2 m (outs m) c main_v10_0
    unfold V2
    rw [Function.update_of_ne (StableHlo.devRef_ne_of_ne (by decide)), Function.update_self]
  | ⟨3, _⟩ =>
    refine (outs_queries m c 2).symm.trans ?_
    show outs m 2 main_v10_1 c = V2 m (outs m) c main_v10_1
    unfold V2
    rw [Function.update_self]

/-- Off the first region's arrays the second valuation is the first. -/
theorem first_rest (c : Dev nD) (b : Ref sig .tc) (h : b ∉ Finset.univ.image (Pipeline.arrRef spec0)) :
    V2 m (outs m) c b = V1 m c b := by
  refine V2_of m (outs m) c b fun hb => h ?_
  simp only [List.mem_cons, List.not_mem_nil, or_false] at hb
  rcases hb with rfl | rfl
  · exact Finset.mem_image.mpr ⟨2, Finset.mem_univ _, rfl⟩
  · exact Finset.mem_image.mpr ⟨3, Finset.mem_univ _, rfl⟩

/-- No table is prefetched. -/
theorem no_tables (p : Fin 2) (c : Dev nD) :
    (BI.emp : sProp 𝕄) ⊢ Pipeline.prefHeld (pcfgs (F := F) p).pre c (fun _ => fullShare) (adm (F := F) p).1 := by
  unfold Pipeline.prefHeld
  rw [show (Finset.univ : Finset (Fin 0)) = ∅ from rfl, BI.bigSep_empty]

/-- No own semaphores. -/
theorem no_sems (c : Dev nD) :
    (BI.emp : sProp 𝕄) ⊢ Pipeline.ownSems0 (Ix := Unit) (Name := ℕ) (U := UR sig nD τ) (Lvl := ℕ) (Val := Elt F) (τ := τ) noSem c := by
  unfold Pipeline.ownSems0
  rw [show (Finset.univ : Finset (Fin 0)) = ∅ from rfl, BI.bigSep_empty]

set_option backward.isDefEq.respectTransparency.types false in
/-- The first region between the host operations. -/
def reg0 : RDat.RegionSeg (pcfgs (F := F)) adm (rdats T) () defs₀ Variants.none L lv 0 where
  win := launch0.win.to₀
  block_pos := launch0.block_pos
  stage_whole := launch0.stage_whole
  K := Fin 0
  osem := noSem
  ho := ⟨fun k => k.elim0, fun k => k.elim0, fun k => k.elim0⟩
  hbody c := (Prep.obligation m c).loose.toR
  hwaits := RDat.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(emp)
  Y c := iprop(emp)
  Z c := Pipeline.unscopedRest spec0 c fun b => V1 m c b
  hentry c := by
    rw [← Pipeline.unscopedBufs_held (Ix := Unit) (Name := ℕ) (U := UR sig nD τ) (Lvl := ℕ) c (V1 m c)]
    have hsplit : (unscopedBufs c (fun b => V1 m c b) : sProp 𝕄)
        ⊢ iprop((rdats T 0 c).arrays (rdats T 0 c).A ∗ Pipeline.unscopedRest spec0 c fun b => V1 m c b) := Pipeline.arrays_of_unscopedBufs (pcfgs (F := F)) adm (dats T) (p := 0) launch0.win launch0.arr_whole c
      ((Prep.dat m c).share_full fun _ => rfl) (fun b => V1 m c b) (Prep.dat_A m c)
    iintro ⟨⟨Hub, HO⟩, -, -⟩
    ihave H := hsplit $$ Hub
    icases H with ⟨Ha, Hz⟩
    imodintro
    isplitl [Ha]; · iexact Ha
    isplitr; · iapply (no_tables 0 c); iempintro
    isplitl [HO]
    · icases HO with ⟨%W, HO⟩
      iapply (show owes (c : Thread nD τ) (0 : CellTallies nD τ sig Unit) W ⊢ (rdats T 0 c).owesAt () 0 from by
        iintro HO
        unfold RDat.owesAt Pipeline.owesWithin
        iexists W; isplitr; · ipureintro; exact fun _ _ => Or.inl trivial
        iexact HO)
      iexact HO
    isplitr; · iempintro
    iexact Hz
  hin c := by
    change _ ⊢ Pipeline.scopedRest spec0 c
    iintro ⟨-, -, Hr⟩
    iexact Hr
  hout c := by
    change Pipeline.scopedRest spec0 c ⊢ _
    iintro Hr
    isplitr; · iempintro
    isplitr; · iapply (no_sems c); iempintro
    iexact Hr
  hexit c := by
    rw [← Pipeline.unscopedBufs_held (Ix := Unit) (Name := ℕ) (U := UR sig nD τ) (Lvl := ℕ) c (V2 m (outs m) c)]
    have hjoin := Pipeline.unscopedBufs_of_arrays (pcfgs (F := F)) adm (p := 0) launch0.win launch0.arr_whole c (dats T)
      ((Prep.dat m c).share_full fun _ => rfl) (fun b => V1 m c b) (fun b => V2 m (outs m) c b)
      ((Prep.dat m c).arrAt · cfg0.N) (first_arrays c) (first_rest c)
    have hpost : (rdats T 0 c).arraysAt cfg0.N ⊢ _ := (Prep.dat m c).toR_arraysAt_post cfg0.N
    iintro ⟨Ha, HO, -, HZ⟩
    imodintro
    isplitl [Ha HZ]
    · iapply hjoin
      isplitl [Ha]
      · iapply hpost; iexact Ha
      · iexact HZ
    · iapply (show (rdats T 0 c).owesAt () (Fin.last cfg0.N) ⊢ R (F := F) c from by
        unfold RDat.owesAt Pipeline.owesWithin
        iintro ⟨%W, -, HO⟩; iexists W; iexact HO)
      iexact HO

/-! ## The second region -/

/-- The final valuation off the result's array. -/
theorem final_of (c : Dev nD) (G : Buf (Elt F) ((c : Thread nD τ).loc main_v13)) (b : Ref sig .tc) (h : b ≠ main_v13) :
    final (m := m) c G b = V3 m (outs m) c b := by
  unfold final
  rw [Function.update_of_ne (StableHlo.devRef_ne_of_ne h)]

/-- The final valuation at the result's array. -/
theorem final_at (c : Dev nD) (G : Buf (Elt F) ((c : Thread nD τ).loc main_v13)) : final (m := m) c G main_v13 = G := by
  unfold final
  rw [Function.update_self]

/-- The result's window writes its whole array back at the last point. -/
theorem whole_last : (cfg1.win 4).WholeAt t1_7 := by
  decide +kernel

/-- What the result's array may hold at the end is a block the last point may leave. -/
theorem good_of_arrAt (c : Dev nD) (G : Buf (Elt F) ((c : Thread nD τ).loc main_v13)) (h : (Sim.rdat (T c)).ArrAt 4 cfg1.N G) :
    Good (T c) G := by
  obtain ⟨X, hX, e⟩ := h.emb_eq_of_wholeAt whole_last
  exact ⟨X, Sim.out_of_leaves (T c) t1_7 X hX, funext fun j => e j⟩

/-- An input's array at the end is what the region found. -/
theorem input_final (c : Dev nD) (w : Fin cfg1.W) (hw : (cfg1.win w).isOut = false) (hne : Pipeline.arrRef spec1 w ≠ main_v13)
    (G : Buf (Elt F) ((c : Thread nD τ).loc main_v13)) :
    (iprop(∃ A, ⌜(Sim.rdat (T c)).ArrAt w cfg1.N A⌝
        ∗ (cfg1.win w).arr.view.loc (c.tc : Thread nD τ) ↦[(cfg1.win w).arr.view.set]{(Sim.rdat (T c)).share w} A) : sProp 𝕄)
      ⊢ (cfg1.win w).arr.view.loc (c.tc : Thread nD τ) ↦[(cfg1.win w).arr.view.set]{(Sim.dat (T c)).share w}
          final (m := m) c G (Pipeline.arrRef spec1 w) := by
  have e : (Sim.rdat (T c)).A w = final (m := m) c G (Pipeline.arrRef spec1 w) := (Sim.dat_A (T c) w).trans (final_of c G _ hne).symm
  rw [← e, RDat.ArrAt_in _ w hw]
  iintro ⟨%A, %h, H⟩
  rw [h]
  iexact H

/-- The result's array at the end. -/
theorem result_final (c : Dev nD) :
    (iprop(∃ A, ⌜(Sim.rdat (T c)).ArrAt 4 cfg1.N A⌝
        ∗ (cfg1.win 4).arr.view.loc (c.tc : Thread nD τ) ↦[(cfg1.win 4).arr.view.set]{(Sim.rdat (T c)).share 4} A) : sProp 𝕄)
      ⊢ iprop(∃ G : Buf (Elt F) ((c : Thread nD τ).loc main_v13), ⌜Good (T c) G⌝
        ∗ (cfg1.win 4).arr.view.loc (c.tc : Thread nD τ) ↦[(cfg1.win 4).arr.view.set]{(Sim.dat (T c)).share 4}
          final (m := m) c G (Pipeline.arrRef spec1 4)) := by
  iintro ⟨%A, %h, H⟩
  iexists A
  isplitr; · ipureintro; exact good_of_arrAt T c A h
  have e : final (m := m) c A (Pipeline.arrRef spec1 4) = A := final_at c A
  rw [e]
  iexact H

/-- The second region's arrays at its end, the result's apart, are what it found. -/
theorem second_arrays (c : Dev nD) : (Sim.rdat (T c)).arraysAt cfg1.N
    ⊢ (iprop(∃ G : Buf (Elt F) ((c : Thread nD τ).loc main_v13), ⌜Good (T c) G⌝
      ∗ (Sim.dat (T c)).arrays fun w => final (m := m) c G (Pipeline.arrRef spec1 w)) : sProp 𝕄) := by
  unfold RDat.arraysAt Dat.arrays
  rw [bigSep_W1]
  have r := result_final T c
  iintro ⟨H0, H1, H2, H3, H4⟩
  ihave H := r $$ H4
  icases H with ⟨%G, %hG, HG⟩
  iexists G
  isplitr; · ipureintro; exact hG
  rw [bigSep_W1]
  isplitl [H0]; · iapply (input_final T c 0 rfl (by decide) G); iexact H0
  isplitl [H1]; · iapply (input_final T c 1 rfl (by decide) G); iexact H1
  isplitl [H2]; · iapply (input_final T c 2 rfl (by decide) G); iexact H2
  isplitl [H3]; · iapply (input_final T c 3 rfl (by decide) G); iexact H3
  iexact HG

set_option backward.isDefEq.respectTransparency.types false in
/-- The second region between the host operations and the end. -/
def reg1 : RDat.RegionSeg (pcfgs (F := F)) adm (rdats T) () defs₀ Variants.none L lv 1 where
  win := winFacts₀1
  block_pos := launch₀1.block_pos
  stage_whole := launch₀1.stage_whole
  K := Fin 0
  osem := noSem
  ho := ⟨fun k => k.elim0, fun k => k.elim0, fun k => k.elim0⟩
  hbody c := (Sim.obligation (T c)).toRRel
  hwaits := RDat.hwaits_of_owed_zero _ _ _ _ L lv 1 fun _ _ => rfl
  pre c := iprop(StableHlo.held (c : Thread nD τ) (Pipeline.ucRefs τ sig) (V3 m (outs m) c) ∗ R c)
  post c := iprop(last T c ∗ R c)
  X c := iprop(emp)
  Y c := iprop(emp)
  Z c := Pipeline.unscopedRest spec1 c fun b => V3 m (outs m) c b
  hentry c := by
    rw [← Pipeline.unscopedBufs_held (Ix := Unit) (Name := ℕ) (U := UR sig nD τ) (Lvl := ℕ) c (V3 m (outs m) c)]
    have hsplit : (unscopedBufs c (fun b => V3 m (outs m) c b) : sProp 𝕄)
        ⊢ iprop((rdats T 1 c).arrays (rdats T 1 c).A ∗ Pipeline.unscopedRest spec1 c fun b => V3 m (outs m) c b) := Pipeline.arrays_of_unscopedBufs_shared (pcfgs (F := F)) adm (dats T) (p := 1) winFacts₀1 sharedIn1 launch₀1.arr_whole c
      (fun _ _ => rfl) (fun b => V3 m (outs m) c b) (Sim.dat_A (T c))
    iintro ⟨⟨Hub, HO⟩, -, -⟩
    ihave H := hsplit $$ Hub
    icases H with ⟨Ha, Hz⟩
    imodintro
    isplitl [Ha]; · iexact Ha
    isplitr; · iapply (no_tables 1 c); iempintro
    isplitl [HO]
    · icases HO with ⟨%W, HO⟩
      iapply (show owes (c : Thread nD τ) (0 : CellTallies nD τ sig Unit) W ⊢ (rdats T 1 c).owesAt () 0 from by
        iintro HO
        unfold RDat.owesAt Pipeline.owesWithin
        iexists W; isplitr; · ipureintro; exact fun _ _ => Or.inl trivial
        iexact HO)
      iexact HO
    isplitr; · iempintro
    iexact Hz
  hin c := by
    change _ ⊢ Sim.inv (T c) 0
    iintro ⟨-, -, Hr⟩
    iapply (Sim.inv_start (T c)); iexact Hr
  hout c := by
    change Sim.inv (T c) _ ⊢ _
    iintro Hr
    isplitr; · iempintro
    isplitr; · iapply (no_sems c); iempintro
    iapply (Sim.inv_end (T c) _); iexact Hr
  hexit c := by
    have hpost : (rdats T 1 c).arraysAt cfg1.N ⊢ _ := second_arrays T c
    have hjoin := fun G => Pipeline.unscopedBufs_of_arrays_shared (pcfgs (F := F)) adm (p := 1) winFacts₀1 sharedIn1 launch₀1.arr_whole c (dats T)
      (fun _ _ => rfl) (fun b => V3 m (outs m) c b) (fun b => final (m := m) c G b)
      (fun w => final (m := m) c G (Pipeline.arrRef spec1 w)) (fun _ => rfl)
      (fun b hb => final_of c G b fun e => hb (Finset.mem_image.mpr ⟨4, Finset.mem_univ _, e.symm⟩))
    iintro ⟨Ha, HO, -, HZ⟩
    imodintro
    isplitl [Ha HZ]
    · ihave Ha' := hpost $$ Ha
      icases Ha' with ⟨%G, %hG, Ha⟩
      unfold last
      iexists G
      isplitr; · ipureintro; exact hG
      rw [← Pipeline.unscopedBufs_held (Ix := Unit) (Name := ℕ) (U := UR sig nD τ) (Lvl := ℕ) c (final (m := m) c G)]
      iapply (hjoin G)
      isplitl [Ha]
      · iexact Ha
      · iexact HZ
    · iapply (show (rdats T 1 c).owesAt () (Fin.last cfg1.N) ⊢ R (F := F) c from by
        unfold RDat.owesAt Pipeline.owesWithin
        iintro ⟨%W, -, HO⟩; iexists W; iexact HO)
      iexact HO

/-! ## The run -/

/-- The program as a list of segments. -/
abbrev segments : List (RDat.Seg (pcfgs (F := F)) adm (rdats T) () defs₀ Variants.none L lv) :=
  [.host (seg0 m Variants.none L lv fun _ => R), .region (reg0 T), .host (seg2 m (outs m) Variants.none L lv fun _ => R), .region (reg1 T)]

/-- The launch element. -/
def u₀ : UR sig nD τ := initOf (Pipeline.cells cfgs cellOf_inj) (Pipeline.launchToks cfgs cellOf_inj)

/-- An argument is what it was. -/
theorem final_arg (c : Dev nD) (G : Buf (Elt F) ((c : Thread nD τ).loc main_v13)) (b : Ref sig .tc) (h : b ≠ main_v13)
    (h3 : b ∉ hostOps1_W) (h2 : b ∉ ([main_v10_0, main_v10_1] : List (Ref sig .tc))) (h1 : b ∉ hostOps0_W) :
    final (m := m) c G b = m ((c : Thread nD τ).loc b) :=
  (final_of c G b h).trans <| (V3_of m (outs m) c b h3).trans <| (V2_of m (outs m) c b h2).trans <| (V1_of m c b h1).trans rfl

set_option backward.isDefEq.respectTransparency.types false in
/-- Every fair run of the program ends, with each argument as launched, the result a block the last point may leave, and every
    semaphore counter at zero. -/
theorem run (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ Good (T c) (r.2.mem ((c.tc : Thread nD τ).loc main_v13)))
      ∧ r.2.sem = fun _ => 0) := by
  refine RDat.θ_run_regions_kit_dev_sems (pcfgs (F := F)) adm (rdats T) () cellOf_inj emb₁ defs₀ Variants.none L lv m ρ main
    (fun _ => segments T)
    (fun c Q => by
      rewrite [main_chain c, RDat.Seg.run_eq_chain,
        show (segments T).map RDat.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segments, RDat.Seg.pipes_host, RDat.Seg.pipes_region, RDat.Seg.pipes_nil]; decide)
    0 (fun _ _ => rfl) (fun _ => iprop(emp)) u₀ ?_
    (fun c => iprop(StableHlo.held (c : Thread nD τ) (Pipeline.ucRefs τ sig) (V0 m c) ∗ R c))
    (last T)
    (fun c => ⟨.rfl, .rfl, .rfl, .rfl, show iprop(last T c ∗ R c) ⊢ _ from .rfl⟩)
    ?_
    (fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
      ∧ Good (T c) (s.mem ((c.tc : Thread nD τ).loc main_v13)))
    ?_ (fun _ h hz => ⟨h, funext fun g => hz g (.inr (regions_no_unscoped g.2))⟩)
  · unfold u₀
    iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    iexists ∅; iexact HO
  · intro c s'
    unfold last StableHlo.held
    iintro ⟨⟨%G, %hG, Hh⟩, HSI⟩
    ihave Hr := (pointsTo_read_all (Pipeline.ucRefs τ sig) (fun b => ((c : Thread nD τ).1, b)) (final (m := m) c G) s') $$ [Hh HSI]
    · isplitl [Hh] <;> iassumption
    icases Hr with ⟨%h, HSI⟩
    imodintro
    isplitr
    · ipureintro
      have hr : ∀ b : Ref sig .tc, ¬ (Proc.devRef (τ := τ) .tc b).isScoped → s'.mem.mem ((c.tc : Thread nD τ).loc b) = final (m := m) c G b :=
        fun b hb => h (Proc.devRef .tc b) (Finset.mem_filter.mpr ⟨StableHlo.devRef_mem_tcRefs b, hb⟩)
      refine ⟨⟨?_, ?_, ?_⟩, ?_⟩
      · exact (hr main_arg0 (by decide)).trans (final_arg c G main_arg0 (by decide) (by decide) (by decide) (by decide))
      · exact (hr main_arg1 (by decide)).trans (final_arg c G main_arg1 (by decide) (by decide) (by decide) (by decide))
      · exact (hr main_arg2 (by decide)).trans (final_arg c G main_arg2 (by decide) (by decide) (by decide) (by decide))
      · exact ((hr main_v13 (by decide)).trans (final_at c G)) ▸ hG
    · iexact HSI

end Cert.KernelIdeal.Run
-- ==== Proof.BitsPrepStep.lean ====
/-
  The shift-image kernel, one point of one: what it stores over the two packed images, its triple, and the proof data of its region.
-/
module

public import proofs.«01_k».proof.Proof.Gen.Kernel.Regions
public import proofs.«01_k».proof.Proof.Gen.Kernel.Skeleton
public import proofs.«01_k».proof.Proof.Gen.Kernel.Points
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.Kernel.Prep
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [BitOps F]

local notation "𝕄" => MT nD τ sig Unit (Elt F) ℕ (UR sig nD τ) ℕ

/-! ## What the body stores -/

/-- The whole packed image a body loads. -/
def whole (x : Vec F S64x128x128 .bf16) : Vec F S64x128x128 .bf16 :=
  View.ld x (Rect.unit (s := S64x128x128) ![0, 0, 0] S64x128x128.size inb_S64x128x128_S64x128x128_0_0_0)

/-- The shift image of offset `k` in the stack of ten. -/
abbrev shiftRect (k : ℕ) (inb : ∀ a, (![k, 0, 0, 0] : Fin 4 → ℕ) a + S1x64x96x64.size a ≤ S10x64x96x64.size a) : Rect S10x64x96x64 :=
  Rect.unit (s := S10x64x96x64) ![k, 0, 0, 0] S1x64x96x64.size inb

/-- Ten stores, one for each shift image, the last first. -/
def tenStores (p9 p8 p7 p6 p5 p4 p3 p2 p1 p0 : Vec F S1x64x96x64 .bf16) : List (View.Piece (Elt F) S10x64x96x64 .bf16) :=
  [⟨shiftRect 9 inb_S10x64x96x64_S1x64x96x64_9_0_0_0, p9⟩,
   ⟨shiftRect 8 inb_S10x64x96x64_S1x64x96x64_8_0_0_0, p8⟩,
   ⟨shiftRect 7 inb_S10x64x96x64_S1x64x96x64_7_0_0_0, p7⟩,
   ⟨shiftRect 6 inb_S10x64x96x64_S1x64x96x64_6_0_0_0, p6⟩,
   ⟨shiftRect 5 inb_S10x64x96x64_S1x64x96x64_5_0_0_0, p5⟩,
   ⟨shiftRect 4 inb_S10x64x96x64_S1x64x96x64_4_0_0_0, p4⟩,
   ⟨shiftRect 3 inb_S10x64x96x64_S1x64x96x64_3_0_0_0, p3⟩,
   ⟨shiftRect 2 inb_S10x64x96x64_S1x64x96x64_2_0_0_0, p2⟩,
   ⟨shiftRect 1 inb_S10x64x96x64_S1x64x96x64_1_0_0_0, p1⟩,
   ⟨shiftRect 0 inb_S10x64x96x64_S1x64x96x64_0_0_0_0, p0⟩]

/-- The ten stores reach every index of the stack. -/
theorem tenStores_cover (p9 p8 p7 p6 p5 p4 p3 p2 p1 p0 : Vec F S1x64x96x64 .bf16) (y : S10x64x96x64.Idx) :
    ∃ pc ∈ tenStores p9 p8 p7 p6 p5 p4 p3 p2 p1 p0, y ∈ pc.1.set :=
  View.cover_of_tiled (tenStores p9 p8 p7 p6 p5 p4 p3 p2 p1 p0) S1x64x96x64.size (by rfl) y

/-- The shift images of the first packed image `W`. -/
def storesK (W : Vec F S64x128x128 .bf16) : List (View.Piece (Elt F) S10x64x96x64 .bf16) :=
  tenStores
    (k0_pay25 k0_pay7 (k0_pay18 (k0_pay4 W) (k0_pay5 (F := F)) k0_pay6))
    (k0_pay24 k0_pay7 (k0_pay19 (k0_pay4 W) (k0_pay5 (F := F)) k0_pay6))
    (k0_pay23 k0_pay7 (k0_pay18 (k0_pay4 W) (k0_pay5 (F := F)) k0_pay6))
    (k0_pay22 (k0_pay21 (k0_pay4 W) (k0_pay5 (F := F)) k0_pay6 k0_pay7))
    (k0_pay20 (k0_pay4 W) (k0_pay5 (F := F)) k0_pay6 k0_pay7)
    (k0_pay16 k0_pay7 (k0_pay9 W))
    (k0_pay15 k0_pay7 (k0_pay10 W))
    (k0_pay14 (k0_pay13 W))
    (k0_pay12 W)
    (k0_pay11 W)

/-- The shift images of the second packed image `W`. -/
def storesQ (W : Vec F S64x128x128 .bf16) : List (View.Piece (Elt F) S10x64x96x64 .bf16) :=
  tenStores
    (k0_pay3 k0_pay29 (k0_pay40 (k0_pay26 W) (k0_pay27 (F := F)) k0_pay28))
    (k0_pay2 k0_pay29 (k0_pay41 (k0_pay26 W) (k0_pay27 (F := F)) k0_pay28))
    (k0_pay1 (k0_pay44 (k0_pay26 W) (k0_pay27 (F := F)) k0_pay28 k0_pay29))
    (k0_pay43 (k0_pay26 W) (k0_pay27 (F := F)) k0_pay28 k0_pay29)
    (k0_pay42 (k0_pay26 W) (k0_pay27 (F := F)) k0_pay28 k0_pay29)
    (k0_pay38 k0_pay29 (k0_pay31 (k0_pay26 W) (k0_pay27 (F := F)) k0_pay28))
    (k0_pay37 (k0_pay36 (k0_pay26 W) (k0_pay27 (F := F)) k0_pay28 k0_pay29))
    (k0_pay35 (k0_pay26 W) (k0_pay27 (F := F)) k0_pay28 k0_pay29)
    (k0_pay34 (k0_pay26 W) (k0_pay27 (F := F)) k0_pay28 k0_pay29)
    (k0_pay33 (k0_pay26 W) (k0_pay27 (F := F)) k0_pay28 k0_pay29)

/-- The first output after the body. -/
def imagesK (x : Vec F S64x128x128 .bf16) : Vec F S10x64x96x64 .bf16 := View.canon (storesK (whole x))

/-- The second output after the body. -/
def imagesQ (x : Vec F S64x128x128 .bf16) : Vec F S10x64x96x64 .bf16 := View.canon (storesQ (whole x))

/-! ## The triple -/

set_option maxHeartbeats 1000000 in
/-- The body on whole buffers: the two inputs are left as they were, the two outputs hold the shift images. -/
theorem step (c : Dev nD) (E : Set ℕ) (arg0 : Memref sig .tc .vmem S64x128x128 .bf16) (harg0 : arg0.IsWhole)
    (arg1 : Memref sig .tc .vmem S64x128x128 .bf16) (harg1 : arg1.IsWhole)
    (arg2 : Memref sig .tc .vmem S10x64x96x64 .bf16) (harg2 : arg2.IsWhole)
    (arg3 : Memref sig .tc .vmem S10x64x96x64 .bf16) (harg3 : arg3.IsWhole)
    (x0 x1 : Vec F S64x128x128 .bf16) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
            ∗ owns (c : Thread nD τ) arg2 fullShare (imagesK x0) ∗ owns (c : Thread nD τ) arg3 fullShare (imagesQ x1)) -∗ K ⟨⟩))
      ⊢ wp frame (wpE (defs₀ (F := F)) Variants.none c none) E (cc0__prep_body arg0 harg0 arg1 harg1 arg2 harg2 arg3 harg3) K := by
  simp only [cc0__prep_body_eq_skeleton]; unfold cc0__prep_body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (tenStores_cover _ _ _ _ _ _ _ _ _ _)).trans ?_
    rfl
  iexists _; isplitr
  swap; · iexact H3
  ipureintro
  refine (View.read_writes_eq_canon _ _ _ (tenStores_cover _ _ _ _ _ _ _ _ _ _)).trans ?_
  rfl

/-! ## The region's proof data -/

variable (m : (ℓ : Loc nD τ sig) → Buf (Elt F) ℓ)

/-- A window's block at a point, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The region's data: inputs stay at their blocks, outputs end at the shift images. -/
def dat (c : Dev nD) : Dat τ (Elt F) Unit ℕ (UR sig nD τ) ℕ cfg0 c where
  A w := V1 m c (Pipeline.arrRef spec0 w)
  after w t := match w with
    | ⟨0, _⟩ => block m c 0 t
    | ⟨1, _⟩ => block m c 1 t
    | ⟨2, _⟩ => imagesK (block m c 0 t)
    | ⟨3, _⟩ => imagesQ (block m c 1 t)
  Φ _ := Pipeline.scopedRest spec0 c
  q _ := fullShare
  owed _ := 0

/-- The data's arrays are what the region finds. -/
theorem dat_A (c : Dev nD) (w : Fin cfg0.W) : (dat m c).A w = V1 m c (Pipeline.arrRef spec0 w) := by dsimp only [dat]
/-- The first input after the body. -/
theorem dat_after0 (c : Dev nD) (t : Fin cfg0.N) : (dat m c).after 0 t = block m c 0 t := by dsimp only [dat]
/-- The second input after the body. -/
theorem dat_after1 (c : Dev nD) (t : Fin cfg0.N) : (dat m c).after 1 t = block m c 1 t := by dsimp only [dat]
/-- The first output after the body. -/
theorem dat_after2 (c : Dev nD) (t : Fin cfg0.N) : (dat m c).after 2 t = imagesK (block m c 0 t) := by dsimp only [dat]
/-- The second output after the body. -/
theorem dat_after3 (c : Dev nD) (t : Fin cfg0.N) : (dat m c).after 3 t = imagesQ (block m c 1 t) := by dsimp only [dat]

/-- The body finds the first input's block. -/
theorem dat_before0 (c : Dev nD) (t : Fin cfg0.N) (d) : (dat m c).before 0 t d = block m c 0 t :=
  ((dat m c).before_in_eq_fetched 0 rfl (fun _ => rfl) (fun _ _ _ => rfl)
    (fun t => by rw [dat_after0]; unfold Dat.blockOf block; rw [dat_A]; try rfl) t d).trans
    (by unfold Dat.fetched Dat.blockOf block; rw [dat_A]; try rfl)
/-- The body finds the second input's block. -/
theorem dat_before1 (c : Dev nD) (t : Fin cfg0.N) (d) : (dat m c).before 1 t d = block m c 1 t :=
  ((dat m c).before_in_eq_fetched 1 rfl (fun _ => rfl) (fun _ _ _ => rfl)
    (fun t => by rw [dat_after1]; unfold Dat.blockOf block; rw [dat_A]; try rfl) t d).trans
    (by unfold Dat.fetched Dat.blockOf block; rw [dat_A]; try rfl)

/-- The body at a point, between the buffers as found and as left. -/
theorem step_at (c : Dev nD) (t : Fin cfg0.N) :
    iprop((dat m c).Φ t.castSucc ∗ (dat m c).owesAt () t.castSucc
      ∗ (∃ d, owns (c : Thread nD τ) (st0_0 t) fullShare ((dat m c).before 0 t d))
      ∗ (∃ d, owns (c : Thread nD τ) (st0_1 t) fullShare ((dat m c).before 1 t d))
      ∗ (∃ d, owns (c : Thread nD τ) (st0_2 t) fullShare ((dat m c).before 2 t d))
      ∗ (∃ d, owns (c : Thread nD τ) (st0_3 t) fullShare ((dat m c).before 3 t d)))
    ⊢ wp frame (wpE (defs₀ (F := F)) Variants.none c none) Set.univ (bodyAt0 t) (fun _ =>
      iprop((dat m c).Φ t.succ ∗ (dat m c).owesAt () t.succ
        ∗ owns (c : Thread nD τ) (st0_0 t) fullShare ((dat m c).after 0 t)
        ∗ owns (c : Thread nD τ) (st0_1 t) fullShare ((dat m c).after 1 t)
        ∗ owns (c : Thread nD τ) (st0_2 t) fullShare ((dat m c).after 2 t)
        ∗ owns (c : Thread nD τ) (st0_3 t) fullShare ((dat m c).after 3 t))) := by
  unfold bodyAt0
  simp only [dat_before0, dat_before1]
  rw [show (dat m c).Φ t.succ = (dat m c).Φ t.castSucc from rfl,
    show (dat m c).owesAt () t.succ = (dat m c).owesAt () t.castSucc from rfl,
    dat_after0, dat_after1, dat_after2, dat_after3]
  iintro ⟨HΦ, Ho, ⟨%d0, H0⟩, ⟨%d1, H1⟩, ⟨%d2, H2⟩, ⟨%d3, H3⟩⟩
  iapply (step c Set.univ _ _ _ _ _ _ _ _ (block m c 0 t) (block m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body the region calls at a point. -/
theorem body_row (t : Fin cfg0.N) : defs₀ (F := F) .tc cfg0.body (cfg0.bodyArgs t (cfg0.slots t)) = bodyAt0 t := by
  unfold defs₀; rw [Defs.onTc_tc]

/-- The region's body obligation. -/
theorem obligation (c : Dev nD) : BodyObligation (dat (F := F) m c) (defs₀ (F := F)) Variants.none () Set.univ := fun t => by
  rw [bigSep_W0, bigSep_W0, body_row]
  exact triple_restated (step_at m c t) rfl .rfl fun _ => .rfl

end Cert.Kernel.Prep
-- ==== Proof.Frames.lean ====
/-
  What the two programs and the reference leave unchanged, and the rewrites that take the kernel to its ideal form.

  The frames of the kernel and of its ideal form are read off the whole runs (`Run.run`), the reference's off the run
  of its straight line of operations. The rewrites are restated one by one by the library's rules.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RefRun
public import proofs.«01_k».proof.Proof.Run
public import proofs.«01_k».proof.Proof.BitsRun
public import Idealize.ShloMosaic.Lib.Bf16Pair

@[expose] public section

noncomputable section

namespace Cert.Proof

open Idealize.ShloMosaic Idealize.SL.Sem

/-- The kernel runs, leaves its arguments as they were and every counter at zero: its whole run, with nothing asked of
    the result. -/
theorem frame_kernel : Cert.quiescent_Kernel := fun m g _ =>
  (θ_run (Cert.Kernel.defs (F := Bits)) _ _).mono (fun _ h => ⟨fun c => (h.1 c).1, h.2⟩)
    (Cert.Kernel.Run.run (F := Bits) (m := m) (fun _ => Cert.Kernel.Sim.Track.trivial _ _ _ _) g)

/-- The ideal kernel runs, leaves its arguments as they were and every counter at zero. -/
theorem frame_ideal : Cert.quiescent_KernelIdeal := fun m g _ =>
  (θ_run (Cert.KernelIdeal.defs (F := Ideal)) _ _).mono (fun _ h => ⟨fun c => (h.1 c).1, h.2⟩)
    (Cert.KernelIdeal.Run.run (F := Ideal) (m := m) (fun _ => Cert.KernelIdeal.Sim.Track.trivial _ _ _ _) g)

/-- The reference runs and leaves its arguments as they were; it has no counter at all. -/
theorem frame_reference : Cert.quiescent_ReferenceIdeal := fun m g _ =>
  (θ_run (Cert.ReferenceIdeal.defs (F := Ideal)) _ _).mono
    (fun r h => ⟨fun c => (h c).2, sem_eq_zero_of_no_sems (by decide) r.2⟩)
    (Cert.ReferenceIdeal.Line.run (F := Ideal) m g)

/-- Every rewrite that leads from the kernel to its ideal form is one of the two rules at the shapes it names. -/
theorem preserves : Cert.preserves_Kernel_KernelIdeal :=
  ⟨IdealRules.bf16_pair.statement _ _ (by decide), IdealRules.bf16_pair.statement _ _ (by decide),
    IdealRules.bf16_pair.statement _ _ (by decide), IdealRules.named_const.statement _ _ _ _ _ (by rfl)⟩

end Cert.Proof

end
-- ==== Proof.PrepValue.lean ====
/-
  The shift images at an index, over the extended reals: which pixel of the packed image each of their elements is.
-/
module

public import proofs.«01_k».proof.Proof.PrepStep
public import Idealize.ShloMosaic.Lib.Pipeline.CanonAppend
public import Idealize.ShloMosaic.Lib.Pointwise

@[expose] public section

set_option maxRecDepth 16384

noncomputable section

namespace Cert.KernelIdeal.Prep
open Cert.KernelIdeal Cert.KernelIdeal.Gen
open Idealize.ShloMosaic

/-! ## The two steps of a shift image, for any offset -/

/-- A shift image from the padded columns `V`: 63 columns from offset `o`, the last one twice, 31 rows of zeros below. -/
def imageFrom (o : ℕ) (h : S64x65x65.Slices ![0, 0, o] S64x65x63) (V : FVec Ideal S64x65x65 .f32) : FVec Ideal S1x64x96x64 .bf16 :=
  shapeCast S1x64x96x64
    (concatenate S64x96x64 1
      [⟨S64x65x64, truncf .bf16 (concatenate S64x65x64 2
          [⟨S64x65x63, extractStridedSlice S64x65x63 ![0, 0, o] V h⟩,
           ⟨S64x65x1, extractStridedSlice S64x65x1 ![0, 0, 62] (extractStridedSlice S64x65x63 ![0, 0, o] V h) slices_S64x65x63_o0_0_62_S64x65x1⟩]
          concatenates_S64x65x63_S64x65x1_S64x65x64_d2) bitsLt_bf16_f32⟩,
       ⟨S64x31x64, k0_pay10 (F := Ideal)⟩] concatenates_S64x65x64_S64x31x64_S64x96x64_d1) shapeCasts_S64x96x64_S1x64x96x64

/-- A shift image at an index. -/
theorem imageFrom_apply (o : ℕ) (h : S64x65x65.Slices ![0, 0, o] S64x65x63) (ho : o + 63 ≤ 65) (V : FVec Ideal S64x65x65 .f32)
    (ch : Fin 64) (r : Fin 96) (x : Fin 64) :
    imageFrom o h V (ix4 0 ch r x)
      = if hr : r.val < 65 then V (ix3 ch (⟨r.val, hr⟩ : Fin 65) (⟨o + min x.val 62, by omega⟩ : Fin 65)) else (0 : EReal) := by
  unfold imageFrom
  pointwise [k0_pay10]
  by_cases hr : r.val < 65
  · simp only [hr, ↓reduceDIte]
    by_cases hx : x.val < 63
    · simp only [hx, ↓reduceDIte]
      exact congrArg V (congrArg (ix3 ch _) (Fin.ext (by simp only []; omega)))
    · simp only [hx, ↓reduceDIte]
      exact congrArg V (congrArg (ix3 ch _) (Fin.ext (by simp only []; omega)))
  · simp only [hr, ↓reduceDIte]

/-! ## The packed image as a padded plane -/

/-- A packed image at three numbers, zero outside. -/
def at3 (W : Vec Ideal S64x128x128 .bf16) (a b c : ℕ) : EReal :=
  if h : a < 64 ∧ b < 128 ∧ c < 128 then W (ix3 (⟨a, h.1⟩ : Fin 64) (⟨b, h.2.1⟩ : Fin 128) (⟨c, h.2.2⟩ : Fin 128)) else 0

/-- An element of a packed image, by the numbers of its index. -/
theorem eq_at3 (W : Vec Ideal S64x128x128 .bf16) (a : Fin 64) (b c : Fin 128) : W (ix3 a b c) = at3 W a.val b.val c.val := by
  unfold at3; rw [dif_pos ⟨a.isLt, b.isLt, c.isLt⟩]

/-- The padded plane of channel `ch` that the packed image `W` holds, at row `R` and column `C`. -/
def padW (W : Vec Ideal S64x128x128 .bf16) (ch R C : ℕ) : EReal :=
  if 1 ≤ R ∧ R ≤ 128 ∧ 1 ≤ C ∧ C ≤ 128 then at3 W ch (2 * ((R - 1) / 2) + (C - 1) % 2) (64 * ((R - 1) % 2) + (C - 1) / 2) else 0

/-- The padded plane inside. -/
theorem padW_in (W : Vec Ideal S64x128x128 .bf16) {ch R C b c : ℕ} (h : 1 ≤ R ∧ R ≤ 128 ∧ 1 ≤ C ∧ C ≤ 128)
    (hb : b = 2 * ((R - 1) / 2) + (C - 1) % 2) (hc : c = 64 * ((R - 1) % 2) + (C - 1) / 2) : at3 W ch b c = padW W ch R C := by
  subst hb hc; unfold padW; rw [if_pos h]

/-- The padded plane on the border. -/
theorem padW_out (W : Vec Ideal S64x128x128 .bf16) {ch R C : ℕ} (h : ¬ (1 ≤ R ∧ R ≤ 128 ∧ 1 ≤ C ∧ C ≤ 128)) : 0 = padW W ch R C := by
  unfold padW; rw [if_neg h]

/-! ## The four assemblies of padded rows and columns -/

/-- Even rows, even columns. -/
theorem pay11_apply (W : Vec Ideal S64x128x128 .bf16) (ch : Fin 64) (r u : Fin 65) :
    k0_pay11 W (ix3 ch r u) = padW W ch.val (2 * r.val) (2 * u.val) := by
  pointwise [k0_pay11, k0_pay9, k0_pay8, k0_pay6, k0_pay5]
  simp only [eq_at3]
  split_ifs <;> first | exact padW_out W (by omega) | exact padW_in W (by omega) (by omega) (by omega)

/-- Even rows, odd columns. -/
theorem pay12_apply (W : Vec Ideal S64x128x128 .bf16) (ch : Fin 64) (r u : Fin 65) :
    k0_pay12 W (ix3 ch r u) = padW W ch.val (2 * r.val) (2 * u.val + 1) := by
  pointwise [k0_pay12, k0_pay9, k0_pay7, k0_pay6, k0_pay4]
  simp only [eq_at3]
  split_ifs <;> first | exact padW_out W (by omega) | exact padW_in W (by omega) (by omega) (by omega)

/-- Odd rows, even columns. -/
theorem pay19_apply (W : Vec Ideal S64x128x128 .bf16) (ch : Fin 64) (r u : Fin 65) :
    k0_pay19 (k0_pay5 W) k0_pay8 k0_pay9 (ix3 ch r u) = padW W ch.val (2 * r.val + 1) (2 * u.val) := by
  pointwise [k0_pay19, k0_pay9, k0_pay8, k0_pay6, k0_pay5]
  simp only [eq_at3]
  split_ifs <;> first | exact padW_out W (by omega) | exact padW_in W (by omega) (by omega) (by omega)

/-- Odd rows, odd columns. -/
theorem pay20_apply (W : Vec Ideal S64x128x128 .bf16) (ch : Fin 64) (r u : Fin 65) :
    k0_pay20 (k0_pay4 W) k0_pay7 k0_pay9 (ix3 ch r u) = padW W ch.val (2 * r.val + 1) (2 * u.val + 1) := by
  pointwise [k0_pay20, k0_pay9, k0_pay7, k0_pay6, k0_pay4]
  simp only [eq_at3]
  split_ifs <;> first | exact padW_out W (by omega) | exact padW_in W (by omega) (by omega) (by omega)

/-! ## The stack -/

/-- The stack of shift images: image `5 * pi + j`, row `r`, column `x` is the padded plane at row `2 * r + pi` and column `2 * min x 62 + j`. -/
def stackW (W : Vec Ideal S64x128x128 .bf16) : Vec Ideal S10x64x96x64 .bf16 := fun y =>
  if (y 2).val < 65 then padW W (y 1).val (2 * (y 2).val + (y 0).val / 5) (2 * min (y 3).val 62 + (y 0).val % 5) else 0

/-- A stored shift image is the stack on its rectangle. -/
theorem piece_eq (W : Vec Ideal S64x128x128 .bf16) (k : ℕ) (inb) (p : Vec Ideal S1x64x96x64 .bf16)
    (hp : ∀ (ch : Fin 64) (r : Fin 96) (x : Fin 64), p (ix4 0 ch r x)
      = if r.val < 65 then padW W ch.val (2 * r.val + k / 5) (2 * min x.val 62 + k % 5) else 0)
    (x : (shiftRect k inb).shape.Idx) : p x = stackW W ((shiftRect k inb).emb x) := by
  have hx : x = (ix4 (0 : Fin 1) (x 1 : Fin 64) (x 2 : Fin 96) (x 3 : Fin 64) : S1x64x96x64.Idx) := by
    funext a; fin_cases a
    · exact Subsingleton.elim (α := Fin 1) _ _
    all_goals rfl
  have h (a : Fin 4) : ((shiftRect k inb).emb x a).val = (![k, 0, 0, 0] : Fin 4 → ℕ) a + 1 * (x a).val := rfl
  have hz : (x 0).val = 0 := Nat.lt_one_iff.mp (x 0).isLt
  have h0 : ((shiftRect k inb).emb x 0).val = k := by rw [h 0, hz]; rfl
  have h1 : ((shiftRect k inb).emb x 1).val = (x 1).val := by rw [h 1, Nat.one_mul]; exact Nat.zero_add _
  have h2 : ((shiftRect k inb).emb x 2).val = (x 2).val := by rw [h 2, Nat.one_mul]; exact Nat.zero_add _
  have h3 : ((shiftRect k inb).emb x 3).val = (x 3).val := by rw [h 3, Nat.one_mul]; exact Nat.zero_add _
  unfold stackW
  rw [h0, h1, h2, h3]
  exact (congrArg p hx).trans (hp (x 1) (x 2) (x 3))

/-- An image from an assembly that is the padded plane of one row parity and one column parity. -/
theorem imageFrom_eq (W : Vec Ideal S64x128x128 .bf16) (k o : ℕ) (h) (ho : o + 63 ≤ 65) (V : FVec Ideal S64x65x65 .f32) (pi b : ℕ)
    (hV : ∀ (ch : Fin 64) (r u : Fin 65), V (ix3 ch r u) = padW W ch.val (2 * r.val + pi) (2 * u.val + b))
    (hk : k / 5 = pi) (hb : k % 5 = 2 * o + b) (ch : Fin 64) (r : Fin 96) (x : Fin 64) :
    imageFrom o h V (ix4 0 ch r x) = if r.val < 65 then padW W ch.val (2 * r.val + k / 5) (2 * min x.val 62 + k % 5) else 0 := by
  rw [imageFrom_apply o h ho]
  by_cases hr : r.val < 65
  · simp only [hr, ↓reduceDIte, ↓reduceIte, hV, hk, hb]
    exact congrArg (padW W ch.val _) (by omega)
  · simp only [hr, ↓reduceDIte, ↓reduceIte]

/-- Storing ten shift images of the four assemblies leaves the stack. -/
theorem canon_tenStores (W : Vec Ideal S64x128x128 .bf16) (V00 V01 V10 V11 : FVec Ideal S64x65x65 .f32)
    (h00 : ∀ (ch : Fin 64) (r u : Fin 65), V00 (ix3 ch r u) = padW W ch.val (2 * r.val + 0) (2 * u.val + 0))
    (h01 : ∀ (ch : Fin 64) (r u : Fin 65), V01 (ix3 ch r u) = padW W ch.val (2 * r.val + 0) (2 * u.val + 1))
    (h10 : ∀ (ch : Fin 64) (r u : Fin 65), V10 (ix3 ch r u) = padW W ch.val (2 * r.val + 1) (2 * u.val + 0))
    (h11 : ∀ (ch : Fin 64) (r u : Fin 65), V11 (ix3 ch r u) = padW W ch.val (2 * r.val + 1) (2 * u.val + 1)) :
    View.canon (tenStores
      (imageFrom 2 slices_S64x65x65_o0_0_2_S64x65x63 V10) (imageFrom 1 slices_S64x65x65_o0_0_1_S64x65x63 V11)
      (imageFrom 1 slices_S64x65x65_o0_0_1_S64x65x63 V10) (imageFrom 0 slices_S64x65x65_o0_0_0_S64x65x63 V11)
      (imageFrom 0 slices_S64x65x65_o0_0_0_S64x65x63 V10)
      (imageFrom 2 slices_S64x65x65_o0_0_2_S64x65x63 V00) (imageFrom 1 slices_S64x65x65_o0_0_1_S64x65x63 V01)
      (imageFrom 1 slices_S64x65x65_o0_0_1_S64x65x63 V00) (imageFrom 0 slices_S64x65x65_o0_0_0_S64x65x63 V01)
      (imageFrom 0 slices_S64x65x65_o0_0_0_S64x65x63 V00)) = stackW W := by
  funext y
  refine (congrFun (congrArg View.canon (List.append_nil _).symm) y).trans
    (View.canon_append_of_pieces (stackW W) [] _ ?_ y (tenStores_cover _ _ _ _ _ _ _ _ _ _ y))
  unfold tenStores
  simp only [List.forall_mem_cons, List.not_mem_nil, false_imp_iff, implies_true, and_true]
  refine ⟨?_, ?_, ?_, ?_, ?_, ?_, ?_, ?_, ?_, ?_⟩
  · exact piece_eq W 9 _ _ (imageFrom_eq W 9 2 _ (by decide) V10 1 0 h10 rfl rfl)
  · exact piece_eq W 8 _ _ (imageFrom_eq W 8 1 _ (by decide) V11 1 1 h11 rfl rfl)
  · exact piece_eq W 7 _ _ (imageFrom_eq W 7 1 _ (by decide) V10 1 0 h10 rfl rfl)
  · exact piece_eq W 6 _ _ (imageFrom_eq W 6 0 _ (by decide) V11 1 1 h11 rfl rfl)
  · exact piece_eq W 5 _ _ (imageFrom_eq W 5 0 _ (by decide) V10 1 0 h10 rfl rfl)
  · exact piece_eq W 4 _ _ (imageFrom_eq W 4 2 _ (by decide) V00 0 0 h00 rfl rfl)
  · exact piece_eq W 3 _ _ (imageFrom_eq W 3 1 _ (by decide) V01 0 1 h01 rfl rfl)
  · exact piece_eq W 2 _ _ (imageFrom_eq W 2 1 _ (by decide) V00 0 0 h00 rfl rfl)
  · exact piece_eq W 1 _ _ (imageFrom_eq W 1 0 _ (by decide) V01 0 1 h01 rfl rfl)
  · exact piece_eq W 0 _ _ (imageFrom_eq W 0 0 _ (by decide) V00 0 0 h00 rfl rfl)

/-- The first output is the stack of the first packed image. -/
theorem imagesK_eq (x : Vec Ideal S64x128x128 .bf16) : imagesK x = stackW (whole x) :=
  canon_tenStores (whole x) _ _ _ _ (pay11_apply _) (pay12_apply _) (pay19_apply _) (pay20_apply _)

/-- The second output is the stack of the second packed image. -/
theorem imagesQ_eq (x : Vec Ideal S64x128x128 .bf16) : imagesQ x = stackW (whole x) :=
  canon_tenStores (whole x) _ _ _ _ (pay11_apply _) (pay12_apply _) (pay19_apply _) (pay20_apply _)

/-- The whole of a packed image is the packed image. -/
theorem whole_eq (x : Vec Ideal S64x128x128 .bf16) : whole x = x :=
  View.ld_unit_zero (S := S64x128x128) (by funext a; fin_cases a <;> rfl) inb_S64x128x128_S64x128x128_0_0_0 x

end Cert.KernelIdeal.Prep

end
-- ==== Proof.Patch.lean ====
/-
  The mathematics of the comparison, over the extended reals and away from either program.

  A padded plane is a function of a channel, a row and a column. A window at `(y, x)` lists the plane's elements at rows
  `2 * y + i` and columns `2 * x + j`, for 64 channels and 25 positions `(i, j)`. Two listings of a window have the same
  sums: one by positions and then channels, with 64 zeros at the end, and one by channels and then positions.
-/
module

public import Idealize.ShloMosaic.PureOps.Ideal
public import Idealize.ShloMosaic.Lib.IdealHost
public import Idealize.ShloMosaic.Lib.Pointwise

@[expose] public section

noncomputable section

namespace Cert.Patch
open Idealize.ShloMosaic

/-! ## Constants -/

/-- The least length a window is divided by. -/
def least : ℝ := 2305843 / 2305843009213693952

/-- The least length is the reference's constant. -/
theorem ofBits_least : Ideal.ofBits .f32 0x2B8CBCCC#32 = (least : EReal) := by
  unfold least
  simp [Ideal.ofBits, Ideal.ieee, -EReal.coe_mul]; norm_num

/-- The start of a maximum is the least extended real. -/
theorem ofBits_bot : Ideal.ofBits .f32 0xFF800000#32 = ⊥ := by
  simp [Ideal.ofBits, Ideal.ieee]

/-- The least length is positive. -/
theorem least_pos : 0 < least := by unfold least; norm_num

/-- The square of the least length. -/
theorem least_sq : (5316911940649 / 5316911983139663491615228241121378304 : ℝ) = least ^ 2 := by unfold least; norm_num

/-! ## Lengths -/

/-- The length a window with sum of squares `s` is divided by. -/
def len (s : EReal) : EReal := max (Ideal.sqrt s) (least : EReal)

/-- Dividing by a length is multiplying by a real number that is not negative, and the reciprocal root of the larger of the
    sum of squares and the least length's square is that number. -/
theorem len_recip {s : EReal} (hs : 0 ≤ s) :
    ∃ c : ℝ, 0 ≤ c ∧ (∀ u, Ideal.div u (len s) = u * (c : EReal)) ∧ Ideal.rsqrt (max s ((least ^ 2 : ℝ) : EReal)) = (c : EReal) := by
  induction s using EReal.rec with
  | bot => exact absurd hs (by simp)
  | top =>
    refine ⟨0, le_rfl, fun u => ?_, ?_⟩
    · simp [len, Ideal.div]
    · simp
  | coe t =>
    have ht : 0 ≤ t := EReal.coe_nonneg.mp hs
    have hl : len (t : EReal) = ((max (Real.sqrt t) least : ℝ) : EReal) := by
      unfold len
      rw [Ideal.sqrt_coe, if_neg (not_lt.mpr ht)]
      exact (EReal.coe_strictMono.monotone.map_max).symm
    have hp : 0 < max (Real.sqrt t) least := lt_max_of_lt_right least_pos
    refine ⟨(max (Real.sqrt t) least)⁻¹, inv_nonneg.mpr hp.le, fun u => ?_, ?_⟩
    · rw [hl, Ideal.div_coe hp.ne', one_div]
    · have hm : max (t : EReal) ((least ^ 2 : ℝ) : EReal) = ((max t (least ^ 2) : ℝ) : EReal) := (EReal.coe_strictMono.monotone.map_max).symm
      have hq : 0 < max t (least ^ 2) := lt_max_of_lt_right (pow_pos least_pos 2)
      rw [hm, Ideal.rsqrt_coe, if_neg (not_lt.mpr hq.le), if_neg hq.ne']
      have hr : Real.sqrt (max t (least ^ 2)) = max (Real.sqrt t) least := by
        rw [(show Monotone Real.sqrt from fun _ _ h => Real.sqrt_le_sqrt h).map_max, Real.sqrt_sq least_pos.le]
      rw [hr]

/-- A sum of squares is not negative. -/
theorem squares_nonneg {ι : Type} [Fintype ι] (f : ι → EReal) : 0 ≤ ∑ i, f i * f i :=
  Finset.sum_nonneg fun i _ => by
    rcases le_total 0 (f i) with h | h
    · exact EReal.mul_nonneg h h
    · have h' : 0 ≤ -f i := by rw [EReal.le_neg, neg_zero]; exact h
      have := EReal.mul_nonneg h' h'
      rwa [neg_mul_neg] at this

/-- A real number that is not negative goes into a sum. -/
theorem sum_mul {ι : Type} (S : Finset ι) (f : ι → EReal) {c : ℝ} (hc : 0 ≤ c) : (∑ i ∈ S, f i) * (c : EReal) = ∑ i ∈ S, f i * (c : EReal) := by
  classical
  induction S using Finset.induction_on with
  | empty => simp
  | insert a S ha ih =>
    rw [Finset.sum_insert ha, Finset.sum_insert ha, EReal.right_distrib_of_nonneg_of_ne_top (EReal.coe_nonneg.mpr hc) (EReal.coe_ne_top c), ih]

/-- A real number that is not negative goes into a maximum. -/
theorem iSup_mul {ι : Type} [Finite ι] [Nonempty ι] (f : ι → EReal) {c : ℝ} (hc : 0 ≤ c) : (⨆ i, f i) * (c : EReal) = ⨆ i, f i * (c : EReal) := by
  have hc' : (0 : EReal) ≤ (c : EReal) := EReal.coe_nonneg.mpr hc
  apply le_antisymm
  · obtain ⟨i, hi⟩ := exists_eq_ciSup_of_finite (f := f)
    rw [← hi]
    exact le_iSup (fun i => f i * (c : EReal)) i
  · exact iSup_le fun i => mul_le_mul_of_nonneg_right (le_iSup f i) hc'

/-- A maximum taken from the least element is the supremum. -/
theorem fold_max {ι : Type} [Fintype ι] (f : ι → EReal) : Finset.fold max ⊥ f Finset.univ = ⨆ i, f i := Finset.sup_univ_eq_iSup f

/-- Dividing the largest product of normalised windows by the query's length is the largest product of windows that are
    both divided by their lengths. -/
theorem normalise {ι κ : Type} [Fintype ι] [Nonempty ι] [Fintype κ] (k : ι → κ → EReal) (q : κ → EReal) :
    Ideal.div (⨆ l, ∑ a, (k l a * Ideal.rsqrt (max (∑ b, k l b * k l b) ((least ^ 2 : ℝ) : EReal))) * q a) (len (∑ b, q b * q b))
      = ⨆ l, ∑ a, Ideal.div (k l a) (len (∑ b, k l b * k l b)) * Ideal.div (q a) (len (∑ b, q b * q b)) := by
  obtain ⟨c, hc, hd, -⟩ := len_recip (squares_nonneg q)
  rw [hd, iSup_mul _ hc]
  refine iSup_congr fun l => ?_
  obtain ⟨e, he, hf, hr⟩ := len_recip (squares_nonneg (k l))
  rw [sum_mul _ _ hc, hr]
  exact Finset.sum_congr rfl fun a _ => by rw [hf, hd, mul_assoc]

/-! ## Windows -/

/-- The padded plane of an image: zero outside rows and columns 1 to 128. -/
def plane (x : (⟨4, ![1, 64, 128, 128]⟩ : Shape).Idx → EReal) (ch R C : ℕ) : EReal :=
  if h : ch < 64 ∧ (1 ≤ R ∧ R - 1 < 128) ∧ 1 ≤ C ∧ C - 1 < 128 then
    x (ix4 0 (⟨ch, h.1⟩ : Fin 64) (⟨R - 1, h.2.1.2⟩ : Fin 128) (⟨C - 1, h.2.2.2⟩ : Fin 128))
  else 0

/-- Element `a` of the window at `(y, x)`: by positions, then channels, then zeros. -/
def row (P : ℕ → ℕ → ℕ → EReal) (y x a : ℕ) : EReal :=
  if a / 64 < 25 then P (a % 64) (2 * y + a / 64 / 5) (2 * x + a / 64 % 5) else 0

/-- Element `a` of the window at `(y, x)`: by channels, then positions. -/
def entry (P : ℕ → ℕ → ℕ → EReal) (y x a : ℕ) : EReal := P (a / 25) (2 * y + a % 25 / 5) (2 * x + a % 25 % 5)

/-- The two listings have the same sums. -/
theorem sum_listing (G : ℕ → ℕ → EReal) :
    ∑ a : Fin 1664, (if a.val / 64 < 25 then G (a.val / 64) (a.val % 64) else 0) = ∑ b : Fin 1600, G (b.val % 25) (b.val / 25) := by
  rw [Fin.sum_univ_eq_sum_range (fun a => if a / 64 < 25 then G (a / 64) (a % 64) else 0) 1664,
    Fin.sum_univ_eq_sum_range (fun b => G (b % 25) (b / 25)) 1600]
  rw [← Finset.sum_subset (s₁ := Finset.range 1600) (Finset.range_subset_range.mpr (by decide))
    (fun a ha hb => by rw [Finset.mem_range] at ha hb; exact if_neg (by omega))]
  refine Finset.sum_nbij' (fun a => a % 64 * 25 + a / 64) (fun b => b % 25 * 64 + b / 25) ?_ ?_ ?_ ?_ ?_
  · intro a ha; rw [Finset.mem_range] at ha ⊢; omega
  · intro a ha; rw [Finset.mem_range] at ha ⊢; omega
  · intro a ha; rw [Finset.mem_range] at ha; omega
  · intro a ha; rw [Finset.mem_range] at ha; omega
  · intro a ha
    rw [Finset.mem_range] at ha
    rw [if_pos (by omega)]
    exact congrArg₂ G (by omega) (by omega)

/-- A sum over a window does not depend on the listing, for a function that sends zeros to zero. -/
theorem sum_rows (P Q : ℕ → ℕ → ℕ → EReal) (y x y' x' : ℕ) (h : EReal → EReal → EReal) (h0 : h 0 0 = 0) :
    ∑ a : Fin 1664, h (row P y x a.val) (row Q y' x' a.val) = ∑ b : Fin 1600, h (entry P y x b.val) (entry Q y' x' b.val) := by
  refine Eq.trans (Finset.sum_congr rfl fun a _ => ?_)
    (sum_listing fun p ch => h (P ch (2 * y + p / 5) (2 * x + p % 5)) (Q ch (2 * y' + p / 5) (2 * x' + p % 5)))
  unfold row
  by_cases ha : a.val / 64 < 25
  · rw [if_pos ha, if_pos ha, if_pos ha]
  · rw [if_neg ha, if_neg ha, if_neg ha, h0]

/-! ## Tiles -/

/-- The row of windows that key lane `l` holds: the last complete one past the end. -/
def laneY (l : ℕ) : ℕ := min (l / 64) 62

/-- The column of windows that a lane `l` holds: the last complete one past the end. -/
def laneX (l : ℕ) : ℕ := min (l % 64) 62

/-- The reciprocal length of the window at `(y, x)`. -/
def recip (P : ℕ → ℕ → ℕ → EReal) (y x : ℕ) : EReal :=
  Ideal.rsqrt (max (∑ b : Fin 1664, row P y x b.val * row P y x b.val) ((least ^ 2 : ℝ) : EReal))

/-- Element `a` of the normalised key window in lane `n` of tile `t`. -/
def keyAt (P : ℕ → ℕ → ℕ → EReal) (t n a : ℕ) : EReal :=
  row P (laneY (t * 1024 + n)) (laneX (t * 1024 + n)) a * recip P (laneY (t * 1024 + n)) (laneX (t * 1024 + n))

/-- Element `a` of the query window in lane `n` of half `s`. -/
def queryAt (Q : ℕ → ℕ → ℕ → EReal) (s n a : ℕ) : EReal := row Q ((s * 2048 + n) / 64) (laneX (s * 2048 + n)) a

/-- The largest product of a tile's key windows with the query window in lane `n` of half `s`. -/
def tileMax (P Q : ℕ → ℕ → ℕ → EReal) (s n t : ℕ) : EReal :=
  ⨆ l : Fin 1024, ∑ a : Fin 1664, keyAt P t l.val a.val * queryAt Q s n a.val

/-- The running maximum after tile `t`. -/
def accAt (P Q : ℕ → ℕ → ℕ → EReal) (s n : ℕ) : ℕ → EReal
  | 0 => tileMax P Q s n 0
  | t + 1 => max (accAt P Q s n t) (tileMax P Q s n (t + 1))

/-- The kernel's result at `(y, x)`. -/
def value (P Q : ℕ → ℕ → ℕ → EReal) (y x : ℕ) : EReal :=
  Ideal.div (accAt P Q (y / 32) (64 * (y % 32) + x) 3)
    (len (∑ a : Fin 1664, queryAt Q (y / 32) (64 * (y % 32) + x) a.val * queryAt Q (y / 32) (64 * (y % 32) + x) a.val))

/-- The four tiles hold exactly the 3969 key windows. -/
theorem acc_eq (P Q : ℕ → ℕ → ℕ → EReal) (s n : ℕ) :
    accAt P Q s n 3 = ⨆ l : Fin 3969, ∑ a : Fin 1664, (row P (l.val / 63) (l.val % 63) a.val * recip P (l.val / 63) (l.val % 63)) * queryAt Q s n a.val := by
  set g : ℕ → ℕ → EReal := fun y x => ∑ a : Fin 1664, (row P y x a.val * recip P y x) * queryAt Q s n a.val with hg
  have hle (t : ℕ) : tileMax P Q s n t ≤ ⨆ l : Fin 3969, g (l.val / 63) (l.val % 63) := by
    refine iSup_le fun l => ?_
    have hy : laneY (t * 1024 + l.val) ≤ 62 := min_le_right _ _
    have hx : laneX (t * 1024 + l.val) ≤ 62 := min_le_right _ _
    refine le_trans (le_of_eq ?_) (le_iSup (fun l : Fin 3969 => g (l.val / 63) (l.val % 63))
      ⟨laneY (t * 1024 + l.val) * 63 + laneX (t * 1024 + l.val), by omega⟩)
    have e1 : (laneY (t * 1024 + l.val) * 63 + laneX (t * 1024 + l.val)) / 63 = laneY (t * 1024 + l.val) := by omega
    have e2 : (laneY (t * 1024 + l.val) * 63 + laneX (t * 1024 + l.val)) % 63 = laneX (t * 1024 + l.val) := by omega
    dsimp only
    rw [e1, e2]
    rfl
  have hacc (t : ℕ) : accAt P Q s n t ≤ ⨆ l : Fin 3969, g (l.val / 63) (l.val % 63) := by
    induction t with
    | zero => exact hle 0
    | succ t ih => exact max_le ih (hle _)
  have htile : ∀ t u : ℕ, tileMax P Q s n t ≤ accAt P Q s n (t + u) := by
    intro t u
    induction u with
    | zero =>
      cases t with
      | zero => exact le_rfl
      | succ t => exact le_max_right _ _
    | succ u ih => exact ih.trans (le_max_left _ _)
  refine le_antisymm (hacc 3) (iSup_le fun l => ?_)
  have hl := l.isLt
  have h3 : (l.val / 63 * 64 + l.val % 63) / 1024 ≤ 3 := by omega
  have hsum := htile ((l.val / 63 * 64 + l.val % 63) / 1024) (3 - (l.val / 63 * 64 + l.val % 63) / 1024)
  rw [Nat.add_sub_cancel' h3] at hsum
  refine le_trans ?_ hsum
  refine le_trans (le_of_eq ?_) (le_iSup (fun m : Fin 1024 => ∑ a : Fin 1664,
    keyAt P ((l.val / 63 * 64 + l.val % 63) / 1024) m.val a.val * queryAt Q s n a.val)
    ⟨(l.val / 63 * 64 + l.val % 63) % 1024, Nat.mod_lt _ (by decide)⟩)
  have e0 : (l.val / 63 * 64 + l.val % 63) / 1024 * 1024 + (l.val / 63 * 64 + l.val % 63) % 1024 = l.val / 63 * 64 + l.val % 63 := by omega
  have e1 : laneY (l.val / 63 * 64 + l.val % 63) = l.val / 63 := by unfold laneY; omega
  have e2 : laneX (l.val / 63 * 64 + l.val % 63) = l.val % 63 := by unfold laneX; omega
  unfold keyAt
  dsimp only
  rw [e0, e1, e2]

/-- The kernel's result is the largest product of the key windows with the query window, all divided by their lengths. -/
theorem value_eq (P Q : ℕ → ℕ → ℕ → EReal) (y x : ℕ) (hx : x < 63) :
    value P Q y x = ⨆ l : Fin 3969, ∑ a : Fin 1600,
      Ideal.div (entry P (l.val / 63) (l.val % 63) a.val)
          (len (∑ b : Fin 1600, entry P (l.val / 63) (l.val % 63) b.val * entry P (l.val / 63) (l.val % 63) b.val))
        * Ideal.div (entry Q y x a.val) (len (∑ b : Fin 1600, entry Q y x b.val * entry Q y x b.val)) := by
  have hq (a : ℕ) : queryAt Q (y / 32) (64 * (y % 32) + x) a = row Q y x a := by
    unfold queryAt laneX
    have e1 : (y / 32 * 2048 + (64 * (y % 32) + x)) / 64 = y := by omega
    have e2 : min ((y / 32 * 2048 + (64 * (y % 32) + x)) % 64) 62 = x := by omega
    rw [e1, e2]
  have hsq (P : ℕ → ℕ → ℕ → EReal) (y x : ℕ) : ∑ b : Fin 1664, row P y x b.val * row P y x b.val = ∑ b : Fin 1600, entry P y x b.val * entry P y x b.val :=
    sum_rows P P y x y x (fun u v => u * v) (by simp)
  unfold value
  rw [acc_eq]
  simp only [hq]
  rw [hsq]
  refine Eq.trans ?_ (normalise (fun (l : Fin 3969) (a : Fin 1600) => entry P (l.val / 63) (l.val % 63) a.val) (fun a : Fin 1600 => entry Q y x a.val))
  refine congrArg (fun z => Ideal.div z (len (∑ b : Fin 1600, entry Q y x b.val * entry Q y x b.val))) ?_
  refine iSup_congr fun l => ?_
  have h := sum_rows P Q (l.val / 63) (l.val % 63) y x (fun u v => u * recip P (l.val / 63) (l.val % 63) * v) (by simp)
  refine h.trans ?_
  have hr : recip P (l.val / 63) (l.val % 63) = Ideal.rsqrt (max (∑ b : Fin 1600, entry P (l.val / 63) (l.val % 63) b.val * entry P (l.val / 63) (l.val % 63) b.val)
      ((least ^ 2 : ℝ) : EReal)) := by unfold recip; rw [hsq]
  rw [hr]

end Cert.Patch

end
-- ==== Proof.BlockValue.lean ====
/-
  The arrays the two regions read, as functions of the arguments, over the extended reals.
-/
module

public import proofs.«01_k».proof.Proof.Run
public import proofs.«01_k».proof.Proof.PrepValue
public import proofs.«01_k».proof.Proof.Patch

@[expose] public section

set_option maxRecDepth 16384

noncomputable section

namespace Cert.KernelIdeal.Run
open Cert.KernelIdeal Cert.KernelIdeal.Gen Cert.Patch
open Idealize.ShloMosaic Idealize.ShloMosaic.TcCoe Idealize.ShloMosaic.StableHlo
open Idealize.ShloMosaic.Pipeline (Dat)

/-! ## The packed images -/

/-- An image packed by the parity of its columns: row `2 * p + b` of the packing holds, in 64 lanes each, the columns of
    parity `b` of image rows `2 * p` and `2 * p + 1`. -/
def packed (x : FVec Ideal S1x64x128x128 .f32) : FVec Ideal S64x128x128 .bf16 :=
  shapeCast S64x128x128 (transpose S64x64x2x128 [0, 1, 3, 2] (shapeCast S64x64x128x2 (truncf .bf16 (shapeCast S64x128x128 x shapeCasts_S1x64x128x128_S64x128x128) bitsLt_bf16_f32)
    shapeCasts_S64x128x128_S64x64x128x2) transposes_S64x64x128x2_S64x64x2x128_0_1_3_2) shapeCasts_S64x64x2x128_S64x128x128

/-- A packed image at an index. -/
theorem packed_apply (x : FVec Ideal S1x64x128x128 .f32) (ch : Fin 64) (r a : Fin 128) :
    packed x (ix3 ch r a) = x (ix4 0 ch (⟨2 * (r.val / 2) + a.val / 64, by omega⟩ : Fin 128) (⟨2 * (a.val % 64) + r.val % 2, by omega⟩ : Fin 128)) := by
  pointwise [packed]
  exact congrArg x (congrArg₂ (ix4 0 ch) (Fin.ext (by dsimp only; omega)) (Fin.ext (by dsimp only; omega)))

/-- The padded plane a packed image holds is the image's. -/
theorem padW_packed (x : FVec Ideal S1x64x128x128 .f32) : Prep.padW (packed x) = plane x := by
  funext ch R C
  unfold Prep.padW plane Prep.at3
  by_cases h : 1 ≤ R ∧ R ≤ 128 ∧ 1 ≤ C ∧ C ≤ 128
  · rw [if_pos h]
    by_cases hc : ch < 64
    · rw [dif_pos ⟨hc, by omega, by omega⟩, dif_pos ⟨hc, by omega, by omega⟩, packed_apply]
      exact congrArg x (congrArg₂ (ix4 0 _) (Fin.ext (by dsimp only; omega)) (Fin.ext (by dsimp only; omega)))
    · rw [dif_neg (fun h' => hc h'.1), dif_neg (fun h' => hc h'.1)]
  · rw [if_neg h, dif_neg (fun h' => h (by omega))]

variable (m : (ℓ : Loc nD τ sig) → Buf (Elt Ideal) ℓ)

/-- The packed key image. -/
theorem V1_keys (c : Dev nD) : V1 m c main_v4 = packed (m ((c : Thread nD τ).loc main_arg0)) := by
  after_results_simp
  rfl

/-- The packed query image. -/
theorem V1_queries (c : Dev nD) : V1 m c main_v9 = packed (m ((c : Thread nD τ).loc main_arg1)) := by
  after_results_simp
  rfl

/-! ## The first region -/

/-- The first region's windows stay at the start of their arrays. -/
theorem index0 : ∀ (w : Fin cfg0.W) (t : Fin cfg0.N) (a : Fin (cfg0.win w).shape.rank), (cfg0.win w).index t a = 0 := by decide +kernel

/-- The first window's block is the packed key image. -/
theorem block_keys (c : Dev nD) (t : Fin cfg0.N) : Prep.block m c 0 t = packed (m ((c : Thread nD τ).loc main_arg0)) := by
  rw [← V1_keys]
  funext y
  exact congrArg (V1 m c main_v4) (funext fun a => Fin.ext ((cfg0.win 0).rect_emb_val_of_index_zero t a (index0 0 t a) y))

/-- The second window's block is the packed query image. -/
theorem block_queries (c : Dev nD) (t : Fin cfg0.N) : Prep.block m c 1 t = packed (m ((c : Thread nD τ).loc main_arg1)) := by
  rw [← V1_queries]
  funext y
  exact congrArg (V1 m c main_v9) (funext fun a => Fin.ext ((cfg0.win 1).rect_emb_val_of_index_zero t a (index0 1 t a) y))

/-- The first region leaves the stack of the key image. -/
theorem stack_keys (c : Dev nD) : (Prep.dat m c).arrAt 2 cfg0.N = Prep.stackW (packed (m ((c : Thread nD τ).loc main_arg0))) := by
  have e : (Prep.dat m c).after 2 t0_0 = Prep.stackW (packed (m ((c : Thread nD τ).loc main_arg0))) := by
    rw [Prep.dat_after2, block_keys, Prep.imagesK_eq, Prep.whole_eq]
  exact (Prep.dat m c).arrAt_eq_of_after_last 2 t0_0 (by decide +kernel) _ fun j => congrFun e j

/-- The first region leaves the stack of the query image. -/
theorem stack_queries (c : Dev nD) : (Prep.dat m c).arrAt 3 cfg0.N = Prep.stackW (packed (m ((c : Thread nD τ).loc main_arg1))) := by
  have e : (Prep.dat m c).after 3 t0_0 = Prep.stackW (packed (m ((c : Thread nD τ).loc main_arg1))) := by
    rw [Prep.dat_after3, block_queries, Prep.imagesQ_eq, Prep.whole_eq]
  exact (Prep.dat m c).arrAt_eq_of_after_last 3 t0_0 (by decide +kernel) _ fun j => congrFun e j

/-! ## The second region -/

/-- A stack of shift images in lanes: image `q`, channel `ch`, lane `l` is the padded plane at row `2 * (l / 64) + q / 5` and
    column `2 * min (l % 64) 62 + q % 5`. -/
theorem lanes_apply (x : FVec Ideal S1x64x128x128 .f32) (q : Fin 10) (ch : Fin 64) (l : Fin 6144) :
    shapeCast S10x64x6144 (Prep.stackW (packed x)) shapeCasts_S10x64x96x64_S10x64x6144 (ix3 q ch l)
      = plane x ch.val (2 * (l.val / 64) + q.val / 5) (2 * laneX l.val + q.val % 5) := by
  pointwise
  unfold Prep.stackW
  rw [padW_packed]
  show (if l.val / 64 < 65 then plane x ch.val (2 * (l.val / 64) + q.val / 5) (2 * min (l.val % 64) 62 + q.val % 5) else 0) = _
  by_cases h : l.val / 64 < 65
  · rw [if_pos h]; rfl
  · rw [if_neg h]; unfold plane; rw [dif_neg (by omega)]

/-- The key array of the second region. -/
theorem V3_keys (c : Dev nD) : V3 m (outs m) c main_v11
    = shapeCast S10x64x6144 (Prep.stackW (packed (m ((c : Thread nD τ).loc main_arg0)))) shapeCasts_S10x64x96x64_S10x64x6144 := by
  rw [← stack_keys, ← outs_keys m c 2]
  after_results_simp
  rfl

/-- The query array of the second region. -/
theorem V3_queries (c : Dev nD) : V3 m (outs m) c main_v12
    = shapeCast S10x64x6144 (Prep.stackW (packed (m ((c : Thread nD τ).loc main_arg1)))) shapeCasts_S10x64x96x64_S10x64x6144 := by
  rw [← stack_queries, ← outs_queries m c 2]
  after_results_simp
  rfl

end Cert.KernelIdeal.Run

end
-- ==== Proof.GatherValue.lean ====
/-
  The unfolded rows of a tile at an index, over the extended reals: which element of which shift image each row reads.
-/
module

public import proofs.«01_k».proof.Proof.SimStep
public import Idealize.ShloMosaic.Lib.Pipeline.Value
public import Idealize.ShloMosaic.Lib.Pointwise

@[expose] public section

set_option maxRecDepth 16384

noncomputable section

namespace Cert.KernelIdeal.Sim
open Cert.KernelIdeal Cert.KernelIdeal.Gen
open Idealize.ShloMosaic

/-! ## Key tiles -/

/-- A block of images at three numbers, zero outside. -/
def atK (X : Vec Ideal S10x64x1024 .bf16) (q ch l : ℕ) : EReal :=
  if h : q < 10 ∧ ch < 64 ∧ l < 1024 then X (ix3 (⟨q, h.1⟩ : Fin 10) (⟨ch, h.2.1⟩ : Fin 64) (⟨l, h.2.2⟩ : Fin 1024)) else 0

/-- An element of a block, by the numbers of its index. -/
theorem eq_atK (X : Vec Ideal S10x64x1024 .bf16) (q : Fin 10) (ch : Fin 64) (l : Fin 1024) : X (ix3 q ch l) = atK X q.val ch.val l.val := by
  unfold atK; rw [dif_pos ⟨q.isLt, ch.isLt, l.isLt⟩]

/-- The unfolded rows of group `p` and channel `ch` at lane `l`: image `p % 10`, read `64 * (p / 10)` lanes further, from
    the second block past the first. -/
def rowK (X Y : Vec Ideal S10x64x1024 .bf16) (p ch l : ℕ) : EReal :=
  if p < 25 then if l + 64 * (p / 10) < 1024 then atK X (p % 10) ch (l + 64 * (p / 10)) else atK Y (p % 10) ch (l + 64 * (p / 10) - 1024) else 0

/-- Rows read in place. -/
def inPlaceK (q : ℕ) (h : S10x64x1024.Slices ![q, 0, 0] S1x64x1024) (X : Vec Ideal S10x64x1024 .bf16) : FVec Ideal S64x1024 .bf16 :=
  shapeCast S64x1024 (extractStridedSlice S1x64x1024 ![q, 0, 0] (shapeCast S10x64x1024 X shapeCasts_S10x64x1024_S10x64x1024) h) shapeCasts_S1x64x1024_S64x1024

/-- Rows read 64 lanes further. -/
def oneOnK (q : ℕ) (h : S10x64x1024.Slices ![q, 0, 64] S1x64x960) (h' : S10x64x1024.Slices ![q, 0, 0] S1x64x64)
    (X Y : Vec Ideal S10x64x1024 .bf16) : FVec Ideal S64x1024 .bf16 :=
  concatenate S64x1024 1
    [⟨S64x960, shapeCast S64x960 (extractStridedSlice S1x64x960 ![q, 0, 64] (shapeCast S10x64x1024 X shapeCasts_S10x64x1024_S10x64x1024) h) shapeCasts_S1x64x960_S64x960⟩,
     ⟨S64x64, shapeCast S64x64 (extractStridedSlice S1x64x64 ![q, 0, 0] (shapeCast S10x64x1024 Y shapeCasts_S10x64x1024_S10x64x1024) h') shapeCasts_S1x64x64_S64x64⟩]
    concatenates_S64x960_S64x64_S64x1024_d1

/-- Rows read 128 lanes further. -/
def twoOnK (q : ℕ) (h : S10x64x1024.Slices ![q, 0, 128] S1x64x896) (h' : S10x64x1024.Slices ![q, 0, 0] S1x64x128)
    (X Y : Vec Ideal S10x64x1024 .bf16) : FVec Ideal S64x1024 .bf16 :=
  concatenate S64x1024 1
    [⟨S64x896, shapeCast S64x896 (extractStridedSlice S1x64x896 ![q, 0, 128] (shapeCast S10x64x1024 X shapeCasts_S10x64x1024_S10x64x1024) h) shapeCasts_S1x64x896_S64x896⟩,
     ⟨S64x128, shapeCast S64x128 (extractStridedSlice S1x64x128 ![q, 0, 0] (shapeCast S10x64x1024 Y shapeCasts_S10x64x1024_S10x64x1024) h') shapeCasts_S1x64x128_S64x128⟩]
    concatenates_S64x896_S64x128_S64x1024_d1

/-- Rows read in place, at an index. -/
theorem inPlaceK_apply (q : ℕ) (h) (X Y : Vec Ideal S10x64x1024 .bf16) (hq : q < 10) (ch : Fin 64) (l : Fin 1024) :
    inPlaceK q h X (ix2 ch l) = rowK X Y q ch.val l.val := by
  pointwise [inPlaceK]
  have h0 : q / 10 = 0 := by omega
  have h1 : q % 10 = q := by omega
  have hl := l.isLt
  simp only [eq_atK, rowK, h0, h1, Nat.mul_zero, Nat.add_zero, hl, (by omega : q < 25), ↓reduceIte]

/-- Rows read 64 lanes further, at an index. -/
theorem oneOnK_apply (q : ℕ) (h h') (X Y : Vec Ideal S10x64x1024 .bf16) (hq : q < 10) (ch : Fin 64) (l : Fin 1024) :
    oneOnK q h h' X Y (ix2 ch l) = rowK X Y (q + 10) ch.val l.val := by
  pointwise [oneOnK]
  have h0 : (q + 10) / 10 = 1 := by omega
  have h1 : (q + 10) % 10 = q := by omega
  simp only [eq_atK, rowK, h0, h1, Nat.mul_one, (by omega : q + 10 < 25), ↓reduceIte]
  by_cases hl : l.val < 960
  · rw [dif_pos hl, if_pos (by omega)]
    exact congrArg (atK X q ch.val) (by omega)
  · rw [dif_neg hl, if_neg (by omega)]
    exact congrArg (atK Y q ch.val) (by omega)

/-- Rows read 128 lanes further, at an index. -/
theorem twoOnK_apply (q : ℕ) (h h') (X Y : Vec Ideal S10x64x1024 .bf16) (hq : q < 5) (ch : Fin 64) (l : Fin 1024) :
    twoOnK q h h' X Y (ix2 ch l) = rowK X Y (q + 20) ch.val l.val := by
  pointwise [twoOnK]
  have h0 : (q + 20) / 10 = 2 := by omega
  have h1 : (q + 20) % 10 = q := by omega
  simp only [eq_atK, rowK, h0, h1, Nat.reduceMul, (by omega : q + 20 < 25), ↓reduceIte]
  by_cases hl : l.val < 896
  · rw [dif_pos hl, if_pos (by omega)]
    exact congrArg (atK X q ch.val) (by omega)
  · rw [dif_neg hl, if_neg (by omega)]
    exact congrArg (atK Y q ch.val) (by omega)

/-- The 26 groups of 64 rows. -/
def groupsK (X Y : Vec Ideal S10x64x1024 .bf16) : Fin 26 → FVec Ideal S64x1024 .bf16 := ![
  inPlaceK 0 slices_S10x64x1024_o0_0_0_S1x64x1024 X,
  inPlaceK 1 slices_S10x64x1024_o1_0_0_S1x64x1024 X,
  inPlaceK 2 slices_S10x64x1024_o2_0_0_S1x64x1024 X,
  inPlaceK 3 slices_S10x64x1024_o3_0_0_S1x64x1024 X,
  inPlaceK 4 slices_S10x64x1024_o4_0_0_S1x64x1024 X,
  inPlaceK 5 slices_S10x64x1024_o5_0_0_S1x64x1024 X,
  inPlaceK 6 slices_S10x64x1024_o6_0_0_S1x64x1024 X,
  inPlaceK 7 slices_S10x64x1024_o7_0_0_S1x64x1024 X,
  inPlaceK 8 slices_S10x64x1024_o8_0_0_S1x64x1024 X,
  inPlaceK 9 slices_S10x64x1024_o9_0_0_S1x64x1024 X,
  oneOnK 0 slices_S10x64x1024_o0_0_64_S1x64x960 slices_S10x64x1024_o0_0_0_S1x64x64 X Y,
  oneOnK 1 slices_S10x64x1024_o1_0_64_S1x64x960 slices_S10x64x1024_o1_0_0_S1x64x64 X Y,
  oneOnK 2 slices_S10x64x1024_o2_0_64_S1x64x960 slices_S10x64x1024_o2_0_0_S1x64x64 X Y,
  oneOnK 3 slices_S10x64x1024_o3_0_64_S1x64x960 slices_S10x64x1024_o3_0_0_S1x64x64 X Y,
  oneOnK 4 slices_S10x64x1024_o4_0_64_S1x64x960 slices_S10x64x1024_o4_0_0_S1x64x64 X Y,
  oneOnK 5 slices_S10x64x1024_o5_0_64_S1x64x960 slices_S10x64x1024_o5_0_0_S1x64x64 X Y,
  oneOnK 6 slices_S10x64x1024_o6_0_64_S1x64x960 slices_S10x64x1024_o6_0_0_S1x64x64 X Y,
  oneOnK 7 slices_S10x64x1024_o7_0_64_S1x64x960 slices_S10x64x1024_o7_0_0_S1x64x64 X Y,
  oneOnK 8 slices_S10x64x1024_o8_0_64_S1x64x960 slices_S10x64x1024_o8_0_0_S1x64x64 X Y,
  oneOnK 9 slices_S10x64x1024_o9_0_64_S1x64x960 slices_S10x64x1024_o9_0_0_S1x64x64 X Y,
  twoOnK 0 slices_S10x64x1024_o0_0_128_S1x64x896 slices_S10x64x1024_o0_0_0_S1x64x128 X Y,
  twoOnK 1 slices_S10x64x1024_o1_0_128_S1x64x896 slices_S10x64x1024_o1_0_0_S1x64x128 X Y,
  twoOnK 2 slices_S10x64x1024_o2_0_128_S1x64x896 slices_S10x64x1024_o2_0_0_S1x64x128 X Y,
  twoOnK 3 slices_S10x64x1024_o3_0_128_S1x64x896 slices_S10x64x1024_o3_0_0_S1x64x128 X Y,
  twoOnK 4 slices_S10x64x1024_o4_0_128_S1x64x896 slices_S10x64x1024_o4_0_0_S1x64x128 X Y,
  broadcast S64x1024 (Scalar.ofBits .bf16 0x0000#16)]

/-- Every group is its rows. -/
theorem groupsK_apply (X Y : Vec Ideal S10x64x1024 .bf16) (n : Fin 26) (ch : Fin 64) (l : Fin 1024) :
    groupsK X Y n (ix2 ch l) = rowK X Y n.val ch.val l.val := by
  fin_cases n
  iterate 10 exact inPlaceK_apply _ (by decide) X Y (by decide) ch l
  iterate 10 exact oneOnK_apply _ (by decide) (by decide) X Y (by decide) ch l
  iterate 5 exact twoOnK_apply _ (by decide) (by decide) X Y (by decide) ch l
  exact (Ideal.ofBits_zero_bf16).trans (by simp only [rowK]; rfl)

/-- All the rows of a tile. -/
def rowsK (X Y : Vec Ideal S10x64x1024 .bf16) : FVec Ideal S1664x1024 .bf16 :=
  concatenate S1664x1024 0 (List.ofFn fun n => (⟨S64x1024, groupsK X Y n⟩ : (s : Shape) × (s.Idx → EReal)))
    concatenates_S64x1024_S64x1024_S64x1024_S64x1024_S64x1024_S64x1024_S64x1024_S64x1024_S64x1024_S64x1024_S64x1024_S64x1024_S64x1024_S64x1024_S64x1024_S64x1024_S64x1024_S64x1024_S64x1024_S64x1024_S64x1024_S64x1024_S64x1024_S64x1024_S64x1024_S64x1024_S1664x1024_d0

/-- The rows of a tile at an index. -/
theorem rowsK_apply (X Y : Vec Ideal S10x64x1024 .bf16) (a : Fin 1664) (l : Fin 1024) :
    rowsK X Y (ix2 a l) = rowK X Y (a.val / 64) (a.val % 64) l.val := by
  have h : a.val / 64 < 26 := by omega
  unfold rowsK
  exact (concatenate_ofFn_apply (t := S1664x1024) (s₁ := S64x1024) (0 : Fin 2) (groupsK X Y) _ rfl 64 rfl (ix2 a l : S1664x1024.Idx) ⟨a.val / 64, h⟩ rfl
    (ix2 (⟨a.val % 64, Nat.mod_lt _ (by decide)⟩ : Fin 64) l : S64x1024.Idx) rfl (fun b hb => by fin_cases b <;> first | rfl | exact absurd rfl hb)).trans
    (groupsK_apply X Y _ _ _)

/-- Rows divided by the lengths of their columns. -/
def tailK (V : FVec Ideal S1664x1024 .bf16) : FVec Ideal S1664x1024 .bf16 :=
  truncf .bf16 (mulf (extf .f32 V bitsLt_bf16_f32) (broadcastTo S1664x1024 (rsqrt (maximumf (shapeCast S1x1024
    (multiReduction .add [0] S1024 (mulf (extf .f32 V bitsLt_bf16_f32) (extf .f32 V bitsLt_bf16_f32)) 0x00000000#32 reduces_S1664x1024_S1024 (.inl rfl) rfl)
    shapeCasts_S1024_S1x1024) (broadcast S1x1024 (Named.named κ "eps_sq" 0x179ABE15#32)))) broadcasts_S1x1024_S1664x1024)) bitsLt_bf16_f32

set_option maxHeartbeats 4000000 in
/-- A key tile is its rows, divided. -/
theorem kTile_eq (X Y : Vec Ideal S10x64x1024 .bf16) : kTile X Y = k1_pay1 (tailK (rowsK X Y)) := rfl

/-- A key tile at an index. -/
theorem kTile_apply (X Y : Vec Ideal S10x64x1024 .bf16) (a : Fin 1664) (l : Fin 1024) :
    kTile X Y (ix3 0 a l) = rowK X Y (a.val / 64) (a.val % 64) l.val * Ideal.rsqrt (max
      (∑ b : Fin 1664, rowK X Y (b.val / 64) (b.val % 64) l.val * rowK X Y (b.val / 64) (b.val % 64) l.val)
      (Named.named (F := Ideal) (φ := .f32) κ "eps_sq" 0x179ABE15#32)) := by
  rw [kTile_eq]
  pointwise [k1_pay1, tailK]
  simp only [rowsK_apply]

/-! ## Query tiles -/

/-- A block of images at three numbers, zero outside. -/
def atQ (X : Vec Ideal S10x64x2048 .bf16) (q ch l : ℕ) : EReal :=
  if h : q < 10 ∧ ch < 64 ∧ l < 2048 then X (ix3 (⟨q, h.1⟩ : Fin 10) (⟨ch, h.2.1⟩ : Fin 64) (⟨l, h.2.2⟩ : Fin 2048)) else 0

/-- An element of a block, by the numbers of its index. -/
theorem eq_atQ (X : Vec Ideal S10x64x2048 .bf16) (q : Fin 10) (ch : Fin 64) (l : Fin 2048) : X (ix3 q ch l) = atQ X q.val ch.val l.val := by
  unfold atQ; rw [dif_pos ⟨q.isLt, ch.isLt, l.isLt⟩]

/-- The unfolded rows of group `p` and channel `ch` at lane `l`: image `p % 10`, read `64 * (p / 10)` lanes further, from
    the second block past the first. -/
def rowQ (X Y : Vec Ideal S10x64x2048 .bf16) (p ch l : ℕ) : EReal :=
  if p < 25 then if l + 64 * (p / 10) < 2048 then atQ X (p % 10) ch (l + 64 * (p / 10)) else atQ Y (p % 10) ch (l + 64 * (p / 10) - 2048) else 0

/-- Rows read in place. -/
def inPlaceQ (q : ℕ) (h : S10x64x2048.Slices ![q, 0, 0] S1x64x2048) (X : Vec Ideal S10x64x2048 .bf16) : FVec Ideal S64x2048 .bf16 :=
  shapeCast S64x2048 (extractStridedSlice S1x64x2048 ![q, 0, 0] (shapeCast S10x64x2048 X shapeCasts_S10x64x2048_S10x64x2048) h) shapeCasts_S1x64x2048_S64x2048

/-- Rows read 64 lanes further. -/
def oneOnQ (q : ℕ) (h : S10x64x2048.Slices ![q, 0, 64] S1x64x1984) (h' : S10x64x2048.Slices ![q, 0, 0] S1x64x64)
    (X Y : Vec Ideal S10x64x2048 .bf16) : FVec Ideal S64x2048 .bf16 :=
  concatenate S64x2048 1
    [⟨S64x1984, shapeCast S64x1984 (extractStridedSlice S1x64x1984 ![q, 0, 64] (shapeCast S10x64x2048 X shapeCasts_S10x64x2048_S10x64x2048) h) shapeCasts_S1x64x1984_S64x1984⟩,
     ⟨S64x64, shapeCast S64x64 (extractStridedSlice S1x64x64 ![q, 0, 0] (shapeCast S10x64x2048 Y shapeCasts_S10x64x2048_S10x64x2048) h') shapeCasts_S1x64x64_S64x64⟩]
    concatenates_S64x1984_S64x64_S64x2048_d1

/-- Rows read 128 lanes further. -/
def twoOnQ (q : ℕ) (h : S10x64x2048.Slices ![q, 0, 128] S1x64x1920) (h' : S10x64x2048.Slices ![q, 0, 0] S1x64x128)
    (X Y : Vec Ideal S10x64x2048 .bf16) : FVec Ideal S64x2048 .bf16 :=
  concatenate S64x2048 1
    [⟨S64x1920, shapeCast S64x1920 (extractStridedSlice S1x64x1920 ![q, 0, 128] (shapeCast S10x64x2048 X shapeCasts_S10x64x2048_S10x64x2048) h) shapeCasts_S1x64x1920_S64x1920⟩,
     ⟨S64x128, shapeCast S64x128 (extractStridedSlice S1x64x128 ![q, 0, 0] (shapeCast S10x64x2048 Y shapeCasts_S10x64x2048_S10x64x2048) h') shapeCasts_S1x64x128_S64x128⟩]
    concatenates_S64x1920_S64x128_S64x2048_d1

/-- Rows read in place, at an index. -/
theorem inPlaceQ_apply (q : ℕ) (h) (X Y : Vec Ideal S10x64x2048 .bf16) (hq : q < 10) (ch : Fin 64) (l : Fin 2048) :
    inPlaceQ q h X (ix2 ch l) = rowQ X Y q ch.val l.val := by
  pointwise [inPlaceQ]
  have h0 : q / 10 = 0 := by omega
  have h1 : q % 10 = q := by omega
  have hl := l.isLt
  simp only [eq_atQ, rowQ, h0, h1, Nat.mul_zero, Nat.add_zero, hl, (by omega : q < 25), ↓reduceIte]

/-- Rows read 64 lanes further, at an index. -/
theorem oneOnQ_apply (q : ℕ) (h h') (X Y : Vec Ideal S10x64x2048 .bf16) (hq : q < 10) (ch : Fin 64) (l : Fin 2048) :
    oneOnQ q h h' X Y (ix2 ch l) = rowQ X Y (q + 10) ch.val l.val := by
  pointwise [oneOnQ]
  have h0 : (q + 10) / 10 = 1 := by omega
  have h1 : (q + 10) % 10 = q := by omega
  simp only [eq_atQ, rowQ, h0, h1, Nat.mul_one, (by omega : q + 10 < 25), ↓reduceIte]
  by_cases hl : l.val < 1984
  · rw [dif_pos hl, if_pos (by omega)]
    exact congrArg (atQ X q ch.val) (by omega)
  · rw [dif_neg hl, if_neg (by omega)]
    exact congrArg (atQ Y q ch.val) (by omega)

/-- Rows read 128 lanes further, at an index. -/
theorem twoOnQ_apply (q : ℕ) (h h') (X Y : Vec Ideal S10x64x2048 .bf16) (hq : q < 5) (ch : Fin 64) (l : Fin 2048) :
    twoOnQ q h h' X Y (ix2 ch l) = rowQ X Y (q + 20) ch.val l.val := by
  pointwise [twoOnQ]
  have h0 : (q + 20) / 10 = 2 := by omega
  have h1 : (q + 20) % 10 = q := by omega
  simp only [eq_atQ, rowQ, h0, h1, Nat.reduceMul, (by omega : q + 20 < 25), ↓reduceIte]
  by_cases hl : l.val < 1920
  · rw [dif_pos hl, if_pos (by omega)]
    exact congrArg (atQ X q ch.val) (by omega)
  · rw [dif_neg hl, if_neg (by omega)]
    exact congrArg (atQ Y q ch.val) (by omega)

/-- The 26 groups of 64 rows. -/
def groupsQ (X Y : Vec Ideal S10x64x2048 .bf16) : Fin 26 → FVec Ideal S64x2048 .bf16 := ![
  inPlaceQ 0 slices_S10x64x2048_o0_0_0_S1x64x2048 X,
  inPlaceQ 1 slices_S10x64x2048_o1_0_0_S1x64x2048 X,
  inPlaceQ 2 slices_S10x64x2048_o2_0_0_S1x64x2048 X,
  inPlaceQ 3 slices_S10x64x2048_o3_0_0_S1x64x2048 X,
  inPlaceQ 4 slices_S10x64x2048_o4_0_0_S1x64x2048 X,
  inPlaceQ 5 slices_S10x64x2048_o5_0_0_S1x64x2048 X,
  inPlaceQ 6 slices_S10x64x2048_o6_0_0_S1x64x2048 X,
  inPlaceQ 7 slices_S10x64x2048_o7_0_0_S1x64x2048 X,
  inPlaceQ 8 slices_S10x64x2048_o8_0_0_S1x64x2048 X,
  inPlaceQ 9 slices_S10x64x2048_o9_0_0_S1x64x2048 X,
  oneOnQ 0 slices_S10x64x2048_o0_0_64_S1x64x1984 slices_S10x64x2048_o0_0_0_S1x64x64 X Y,
  oneOnQ 1 slices_S10x64x2048_o1_0_64_S1x64x1984 slices_S10x64x2048_o1_0_0_S1x64x64 X Y,
  oneOnQ 2 slices_S10x64x2048_o2_0_64_S1x64x1984 slices_S10x64x2048_o2_0_0_S1x64x64 X Y,
  oneOnQ 3 slices_S10x64x2048_o3_0_64_S1x64x1984 slices_S10x64x2048_o3_0_0_S1x64x64 X Y,
  oneOnQ 4 slices_S10x64x2048_o4_0_64_S1x64x1984 slices_S10x64x2048_o4_0_0_S1x64x64 X Y,
  oneOnQ 5 slices_S10x64x2048_o5_0_64_S1x64x1984 slices_S10x64x2048_o5_0_0_S1x64x64 X Y,
  oneOnQ 6 slices_S10x64x2048_o6_0_64_S1x64x1984 slices_S10x64x2048_o6_0_0_S1x64x64 X Y,
  oneOnQ 7 slices_S10x64x2048_o7_0_64_S1x64x1984 slices_S10x64x2048_o7_0_0_S1x64x64 X Y,
  oneOnQ 8 slices_S10x64x2048_o8_0_64_S1x64x1984 slices_S10x64x2048_o8_0_0_S1x64x64 X Y,
  oneOnQ 9 slices_S10x64x2048_o9_0_64_S1x64x1984 slices_S10x64x2048_o9_0_0_S1x64x64 X Y,
  twoOnQ 0 slices_S10x64x2048_o0_0_128_S1x64x1920 slices_S10x64x2048_o0_0_0_S1x64x128 X Y,
  twoOnQ 1 slices_S10x64x2048_o1_0_128_S1x64x1920 slices_S10x64x2048_o1_0_0_S1x64x128 X Y,
  twoOnQ 2 slices_S10x64x2048_o2_0_128_S1x64x1920 slices_S10x64x2048_o2_0_0_S1x64x128 X Y,
  twoOnQ 3 slices_S10x64x2048_o3_0_128_S1x64x1920 slices_S10x64x2048_o3_0_0_S1x64x128 X Y,
  twoOnQ 4 slices_S10x64x2048_o4_0_128_S1x64x1920 slices_S10x64x2048_o4_0_0_S1x64x128 X Y,
  broadcast S64x2048 (Scalar.ofBits .bf16 0x0000#16)]

/-- Every group is its rows. -/
theorem groupsQ_apply (X Y : Vec Ideal S10x64x2048 .bf16) (n : Fin 26) (ch : Fin 64) (l : Fin 2048) :
    groupsQ X Y n (ix2 ch l) = rowQ X Y n.val ch.val l.val := by
  fin_cases n
  iterate 10 exact inPlaceQ_apply _ (by decide) X Y (by decide) ch l
  iterate 10 exact oneOnQ_apply _ (by decide) (by decide) X Y (by decide) ch l
  iterate 5 exact twoOnQ_apply _ (by decide) (by decide) X Y (by decide) ch l
  exact (Ideal.ofBits_zero_bf16).trans (by simp only [rowQ]; rfl)

/-- All the rows of a tile. -/
def rowsQ (X Y : Vec Ideal S10x64x2048 .bf16) : FVec Ideal S1664x2048 .bf16 :=
  concatenate S1664x2048 0 (List.ofFn fun n => (⟨S64x2048, groupsQ X Y n⟩ : (s : Shape) × (s.Idx → EReal)))
    concatenates_S64x2048_S64x2048_S64x2048_S64x2048_S64x2048_S64x2048_S64x2048_S64x2048_S64x2048_S64x2048_S64x2048_S64x2048_S64x2048_S64x2048_S64x2048_S64x2048_S64x2048_S64x2048_S64x2048_S64x2048_S64x2048_S64x2048_S64x2048_S64x2048_S64x2048_S64x2048_S1664x2048_d0

/-- The rows of a tile at an index. -/
theorem rowsQ_apply (X Y : Vec Ideal S10x64x2048 .bf16) (a : Fin 1664) (l : Fin 2048) :
    rowsQ X Y (ix2 a l) = rowQ X Y (a.val / 64) (a.val % 64) l.val := by
  have h : a.val / 64 < 26 := by omega
  unfold rowsQ
  exact (concatenate_ofFn_apply (t := S1664x2048) (s₁ := S64x2048) (0 : Fin 2) (groupsQ X Y) _ rfl 64 rfl (ix2 a l : S1664x2048.Idx) ⟨a.val / 64, h⟩ rfl
    (ix2 (⟨a.val % 64, Nat.mod_lt _ (by decide)⟩ : Fin 64) l : S64x2048.Idx) rfl (fun b hb => by fin_cases b <;> first | rfl | exact absurd rfl hb)).trans
    (groupsQ_apply X Y _ _ _)

set_option maxHeartbeats 4000000 in
/-- A query tile is its rows. -/
theorem qTile_eq (X Y : Vec Ideal S10x64x2048 .bf16) : qTile X Y = k1_pay13 (rowsQ X Y) := rfl

/-- A query tile at an index. -/
theorem qTile_apply (X Y : Vec Ideal S10x64x2048 .bf16) (a : Fin 1664) (l : Fin 2048) :
    qTile X Y (ix2 a l) = rowQ X Y (a.val / 64) (a.val % 64) l.val := by
  rw [qTile_eq]
  pointwise [k1_pay13]
  exact rowsQ_apply X Y a l

end Cert.KernelIdeal.Sim

end
-- ==== Proof.SimValue.lean ====
/-
  The running maxima and the result rows at an index, over the extended reals.
-/
module

public import proofs.«01_k».proof.Proof.SimStep
public import Idealize.ShloMosaic.Lib.Pipeline.Value
public import Idealize.ShloMosaic.Lib.Pointwise

@[expose] public section

set_option maxRecDepth 16384

noncomputable section

namespace Cert.KernelIdeal.Sim
open Cert.KernelIdeal Cert.KernelIdeal.Gen
open Idealize.ShloMosaic

/-- A point's column maxima: the largest product of the tile's columns with the query column, and, past the first point
    of a query half, the maximum so far. -/
theorem pay14_apply (i : grid1.Coords) (K : Vec Ideal S1x1664x1024 .bf16) (Q : Vec Ideal S1664x2048 .bf16) (A : Vec Ideal S1x2048 .f32) (l : Fin 2048) :
    k1_pay14 i K Q A (ix2 0 l) = if (i 1).val = 0 then
        Finset.fold max (Ideal.ofBits FTy.f32 4286578688#32) (fun n => ∑ a, K (ix3 0 a n) * Q (ix2 a l)) Finset.univ
      else max (A (ix2 0 l)) (Finset.fold max (Ideal.ofBits FTy.f32 4286578688#32) (fun n => ∑ a, K (ix3 0 a n) * Q (ix2 a l)) Finset.univ) := by
  pointwise [k1_pay14]
  have h : ∀ n : Fin 4, Scalar.cmpi CmpIPredicate.eq (BitVec.ofNat 32 n.val) 0#32 = if n.val = 0 then 1#1 else 0#1 := by decide
  rw [h (i 1)]
  split <;> rfl

/-- The column maxima over the lengths of the query columns. -/
def ratio (Q : Vec Ideal S1664x2048 .bf16) (A : Vec Ideal S1x2048 .f32) : FVec Ideal S1x2048 .f32 :=
  divf A (maximumf (sqrt (shapeCast S1x2048 (multiReduction .add [0] S2048
    (mulf (extf .f32 Q bitsLt_bf16_f32) (extf .f32 Q bitsLt_bf16_f32)) 0x00000000#32 reduces_S1664x2048_S2048 (.inl rfl) rfl)
    shapeCasts_S2048_S1x2048)) (broadcast S1x2048 (Scalar.ofBits .f32 0x2B8CBCCC#32)))

/-- The column maxima over the lengths, at an index. -/
theorem ratio_apply (Q : Vec Ideal S1664x2048 .bf16) (A : Vec Ideal S1x2048 .f32) (l : Fin 2048) :
    ratio Q A (ix2 0 l) = Ideal.div (A (ix2 0 l)) (max (Ideal.sqrt (∑ a, Q (ix2 a l) * Q (ix2 a l))) (Ideal.ofBits .f32 0x2B8CBCCC#32)) := by
  pointwise [ratio]

/-- Every group of 64 lanes lies in the row. -/
theorem groups_inside : ∀ n : Fin 32, S1x2048.Slices ![0, 64 * n.val] S1x64 := by decide

/-- One group of 64 lanes. -/
def group (V : FVec Ideal S1x2048 .f32) (n : Fin 32) : FVec Ideal S1x64 .f32 := extractStridedSlice S1x64 ![0, 64 * n.val] V (groups_inside n)

/-- The groups of 64 lanes as rows. -/
def folded (V : FVec Ideal S1x2048 .f32) : FVec Ideal S32x64 .f32 :=
  concatenate S32x64 0 (List.ofFn fun n => (⟨S1x64, group V n⟩ : (s : Shape) × (s.Idx → EReal)))
    concatenates_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S32x64_d0

/-- The groups as rows, at an index. -/
theorem folded_apply (V : FVec Ideal S1x2048 .f32) (y : Fin 32) (x : Fin 64) :
    folded V (ix2 y x) = V (ix2 0 (⟨64 * y.val + x.val, by omega⟩ : Fin 2048)) := by
  unfold folded
  refine (concatenate_ofFn_apply (t := S32x64) (s₁ := S1x64) (0 : Fin 2) (group V) _ rfl 1 rfl (ix2 y x : S32x64.Idx) ⟨y.val / 1, by omega⟩ rfl
    (ix2 (⟨y.val % 1, Nat.mod_lt _ (by decide)⟩ : Fin 1) x : S1x64.Idx) rfl (fun b hb => by fin_cases b <;> first | rfl | exact absurd rfl hb)).trans ?_
  have e : (⟨y.val % 1, Nat.mod_lt _ (by decide)⟩ : Fin 1) = 0 := Subsingleton.elim _ _
  rw [e]
  pointwise [group]

set_option maxHeartbeats 4000000 in
/-- The result rows are the ratios, as rows. -/
theorem pay53_eq (Q : Vec Ideal S1664x2048 .bf16) (A : Vec Ideal S1x2048 .f32) : k1_pay53 Q A = folded (ratio Q A) := rfl

/-- The first 32 result rows, at an index. -/
theorem pay54_apply (Q : Vec Ideal S1664x2048 .bf16) (A : Vec Ideal S1x2048 .f32) (y : Fin 32) (x : Fin 63) :
    k1_pay54 Q A (ix4 0 0 y x) = ratio Q A (ix2 0 (⟨64 * y.val + x.val, by omega⟩ : Fin 2048)) := by
  unfold k1_pay54; rw [pay53_eq]
  pointwise
  exact folded_apply _ _ _

/-- The last 31 result rows, at an index. -/
theorem pay15_apply (Q : Vec Ideal S1664x2048 .bf16) (A : Vec Ideal S1x2048 .f32) (y : Fin 31) (x : Fin 63) :
    k1_pay15 (k1_pay53 Q A) (ix4 0 0 y x) = ratio Q A (ix2 0 (⟨64 * y.val + x.val, by omega⟩ : Fin 2048)) := by
  unfold k1_pay15; rw [pay53_eq]
  pointwise
  exact folded_apply _ _ _

/-- The copied lanes are stored as they were read. -/
theorem pay2_apply (W : Vec Ideal S1x1664x64 .bf16) : k1_pay2 W = W := by
  funext y
  have key : ∀ (b : Fin 1664) (c : Fin 64), k1_pay2 W (ix3 0 b c) = W (ix3 0 b c) := fun b c => by pointwise [k1_pay2]
  have h0 : y 0 = (0 : Fin 1) := Subsingleton.elim (α := Fin 1) _ _
  rw [eq_ix3 y, h0]
  exact key _ _

end Cert.KernelIdeal.Sim

end
-- ==== Proof.LaneValue.lean ====
/-
  The blocks the second region reads, as windows of the arguments' padded planes, over the extended reals.
-/
module

public import proofs.«01_k».proof.Proof.BlockValue
public import proofs.«01_k».proof.Proof.GatherValue
public import proofs.«01_k».proof.Proof.SimValue

@[expose] public section

set_option maxRecDepth 16384

noncomputable section

namespace Cert.KernelIdeal.Run
open Cert.KernelIdeal Cert.KernelIdeal.Gen Cert.Patch
open Idealize.ShloMosaic Idealize.ShloMosaic.TcCoe

variable (m : (ℓ : Loc nD τ sig) → Buf (Elt Ideal) ℓ)

/-! ## The blocks -/

/-- Where the second region's input windows stand. -/
theorem index1 : ∀ t : Fin cfg1.N,
    ((cfg1.win 0).index t 0 = 0 ∧ (cfg1.win 0).index t 1 = 0 ∧ (cfg1.win 0).index t 2 = (grid1.coords t 1).val)
    ∧ ((cfg1.win 1).index t 0 = 0 ∧ (cfg1.win 1).index t 1 = 0 ∧ (cfg1.win 1).index t 2 = (grid1.coords t 1).val + 1)
    ∧ ((cfg1.win 2).index t 0 = 0 ∧ (cfg1.win 2).index t 1 = 0 ∧ (cfg1.win 2).index t 2 = (grid1.coords t 0).val)
    ∧ ((cfg1.win 3).index t 0 = 0 ∧ (cfg1.win 3).index t 1 = 0 ∧ (cfg1.win 3).index t 2 = (grid1.coords t 0).val + 1) := by decide +kernel

/-- The first key block at a point. -/
theorem block1_0 (c : Dev nD) (t : Fin cfg1.N) (q : Fin 10) (ch : Fin 64) (l : Fin 1024) :
    (Sim.block m (outs m) c 0 t : Vec Ideal S10x64x1024 .bf16) (ix3 q ch l)
      = plane (m ((c : Thread nD τ).loc main_arg0)) ch.val (2 * (((grid1.coords t 1).val * 1024 + l.val) / 64) + q.val / 5) (2 * laneX ((grid1.coords t 1).val * 1024 + l.val) + q.val % 5) := by
  obtain ⟨⟨h0, h1, h2⟩, -⟩ := index1 t
  have hb : (grid1.coords t 1).val < 4 := (grid1.coords t 1).isLt
  have hl : ((grid1.coords t 1).val * 1024 + l.val) < 6144 := by omega
  refine Eq.trans ?_ (lanes_apply _ q ch (⟨((grid1.coords t 1).val * 1024 + l.val), hl⟩ : Fin 6144))
  rw [← V3_keys]
  refine congrArg (V3 m (outs m) c main_v11) (?_ : ((cfg1.win 0).rect t).emb (ix3 q ch l) = _)
  funext a
  refine Fin.ext (((cfg1.win 0).rect_emb_val t (ix3 q ch l) a).trans ?_)
  fin_cases a
  · show (cfg1.win 0).index t 0 * 10 + q.val = q.val
    rw [h0]; omega
  · show (cfg1.win 0).index t 1 * 64 + ch.val = ch.val
    rw [h1]; omega
  · show (cfg1.win 0).index t 2 * 1024 + l.val = ((grid1.coords t 1).val * 1024 + l.val)
    rw [h2]

/-- The second key block at a point. -/
theorem block1_1 (c : Dev nD) (t : Fin cfg1.N) (q : Fin 10) (ch : Fin 64) (l : Fin 1024) :
    (Sim.block m (outs m) c 1 t : Vec Ideal S10x64x1024 .bf16) (ix3 q ch l)
      = plane (m ((c : Thread nD τ).loc main_arg0)) ch.val (2 * ((((grid1.coords t 1).val + 1) * 1024 + l.val) / 64) + q.val / 5) (2 * laneX (((grid1.coords t 1).val + 1) * 1024 + l.val) + q.val % 5) := by
  obtain ⟨-, ⟨h0, h1, h2⟩, -⟩ := index1 t
  have hb : (grid1.coords t 1).val < 4 := (grid1.coords t 1).isLt
  have hl : (((grid1.coords t 1).val + 1) * 1024 + l.val) < 6144 := by omega
  refine Eq.trans ?_ (lanes_apply _ q ch (⟨(((grid1.coords t 1).val + 1) * 1024 + l.val), hl⟩ : Fin 6144))
  rw [← V3_keys]
  refine congrArg (V3 m (outs m) c main_v11) (?_ : ((cfg1.win 1).rect t).emb (ix3 q ch l) = _)
  funext a
  refine Fin.ext (((cfg1.win 1).rect_emb_val t (ix3 q ch l) a).trans ?_)
  fin_cases a
  · show (cfg1.win 1).index t 0 * 10 + q.val = q.val
    rw [h0]; omega
  · show (cfg1.win 1).index t 1 * 64 + ch.val = ch.val
    rw [h1]; omega
  · show (cfg1.win 1).index t 2 * 1024 + l.val = (((grid1.coords t 1).val + 1) * 1024 + l.val)
    rw [h2]

/-- The first query block at a point. -/
theorem block1_2 (c : Dev nD) (t : Fin cfg1.N) (q : Fin 10) (ch : Fin 64) (l : Fin 2048) :
    (Sim.block m (outs m) c 2 t : Vec Ideal S10x64x2048 .bf16) (ix3 q ch l)
      = plane (m ((c : Thread nD τ).loc main_arg1)) ch.val (2 * (((grid1.coords t 0).val * 2048 + l.val) / 64) + q.val / 5) (2 * laneX ((grid1.coords t 0).val * 2048 + l.val) + q.val % 5) := by
  obtain ⟨-, -, ⟨h0, h1, h2⟩, -⟩ := index1 t
  have hb : (grid1.coords t 0).val < 2 := (grid1.coords t 0).isLt
  have hl : ((grid1.coords t 0).val * 2048 + l.val) < 6144 := by omega
  refine Eq.trans ?_ (lanes_apply _ q ch (⟨((grid1.coords t 0).val * 2048 + l.val), hl⟩ : Fin 6144))
  rw [← V3_queries]
  refine congrArg (V3 m (outs m) c main_v12) (?_ : ((cfg1.win 2).rect t).emb (ix3 q ch l) = _)
  funext a
  refine Fin.ext (((cfg1.win 2).rect_emb_val t (ix3 q ch l) a).trans ?_)
  fin_cases a
  · show (cfg1.win 2).index t 0 * 10 + q.val = q.val
    rw [h0]; omega
  · show (cfg1.win 2).index t 1 * 64 + ch.val = ch.val
    rw [h1]; omega
  · show (cfg1.win 2).index t 2 * 2048 + l.val = ((grid1.coords t 0).val * 2048 + l.val)
    rw [h2]

/-- The second query block at a point. -/
theorem block1_3 (c : Dev nD) (t : Fin cfg1.N) (q : Fin 10) (ch : Fin 64) (l : Fin 2048) :
    (Sim.block m (outs m) c 3 t : Vec Ideal S10x64x2048 .bf16) (ix3 q ch l)
      = plane (m ((c : Thread nD τ).loc main_arg1)) ch.val (2 * ((((grid1.coords t 0).val + 1) * 2048 + l.val) / 64) + q.val / 5) (2 * laneX (((grid1.coords t 0).val + 1) * 2048 + l.val) + q.val % 5) := by
  obtain ⟨-, -, -, ⟨h0, h1, h2⟩⟩ := index1 t
  have hb : (grid1.coords t 0).val < 2 := (grid1.coords t 0).isLt
  have hl : (((grid1.coords t 0).val + 1) * 2048 + l.val) < 6144 := by omega
  refine Eq.trans ?_ (lanes_apply _ q ch (⟨(((grid1.coords t 0).val + 1) * 2048 + l.val), hl⟩ : Fin 6144))
  rw [← V3_queries]
  refine congrArg (V3 m (outs m) c main_v12) (?_ : ((cfg1.win 3).rect t).emb (ix3 q ch l) = _)
  funext a
  refine Fin.ext (((cfg1.win 3).rect_emb_val t (ix3 q ch l) a).trans ?_)
  fin_cases a
  · show (cfg1.win 3).index t 0 * 10 + q.val = q.val
    rw [h0]; omega
  · show (cfg1.win 3).index t 1 * 64 + ch.val = ch.val
    rw [h1]; omega
  · show (cfg1.win 3).index t 2 * 2048 + l.val = (((grid1.coords t 0).val + 1) * 2048 + l.val)
    rw [h2]

end Cert.KernelIdeal.Run

namespace Cert.KernelIdeal.Sim
open Cert.KernelIdeal Cert.KernelIdeal.Gen Cert.Patch
open Idealize.ShloMosaic

/-! ## The rows of a tile -/

/-- A lane some rows further has the same column of windows. -/
theorem laneX_add (l k : ℕ) : laneX (l + 64 * k) = laneX l := by unfold laneX; omega

/-- The rows of a key tile are a window's elements. -/
theorem rowK_eq (P : ℕ → ℕ → ℕ → EReal) (b : ℕ) (X Y : Vec Ideal S10x64x1024 .bf16)
    (hX : ∀ (q : Fin 10) (ch : Fin 64) (l : Fin 1024), X (ix3 q ch l)
      = P ch.val (2 * ((b * 1024 + l.val) / 64) + q.val / 5) (2 * laneX (b * 1024 + l.val) + q.val % 5))
    (hY : ∀ (q : Fin 10) (ch : Fin 64) (l : Fin 1024), Y (ix3 q ch l)
      = P ch.val (2 * (((b + 1) * 1024 + l.val) / 64) + q.val / 5) (2 * laneX ((b + 1) * 1024 + l.val) + q.val % 5))
    (a : Fin 1664) (l : Fin 1024) :
    rowK X Y (a.val / 64) (a.val % 64) l.val = row P ((b * 1024 + l.val) / 64) (laneX (b * 1024 + l.val)) a.val := by
  have hl := l.isLt
  have hlane := laneX_add (b * 1024 + l.val) (a.val / 64 / 10)
  unfold rowK row
  by_cases hp : a.val / 64 < 25
  · rw [if_pos hp, if_pos hp]
    by_cases h : l.val + 64 * (a.val / 64 / 10) < 1024
    · rw [if_pos h, atK, dif_pos ⟨Nat.mod_lt _ (by decide), Nat.mod_lt _ (by decide), h⟩, hX]
      dsimp only
      have e : b * 1024 + (l.val + 64 * (a.val / 64 / 10)) = b * 1024 + l.val + 64 * (a.val / 64 / 10) := by omega
      rw [e, hlane]
      exact congrArg₂ (P _) (by omega) (by omega)
    · rw [if_neg h, atK, dif_pos ⟨Nat.mod_lt _ (by decide), Nat.mod_lt _ (by decide), by omega⟩, hY]
      dsimp only
      have e : (b + 1) * 1024 + (l.val + 64 * (a.val / 64 / 10) - 1024) = b * 1024 + l.val + 64 * (a.val / 64 / 10) := by omega
      rw [e, hlane]
      exact congrArg₂ (P _) (by omega) (by omega)
  · rw [if_neg hp, if_neg hp]

/-- The rows of a query tile are a window's elements. -/
theorem rowQ_eq (P : ℕ → ℕ → ℕ → EReal) (b : ℕ) (X Y : Vec Ideal S10x64x2048 .bf16)
    (hX : ∀ (q : Fin 10) (ch : Fin 64) (l : Fin 2048), X (ix3 q ch l)
      = P ch.val (2 * ((b * 2048 + l.val) / 64) + q.val / 5) (2 * laneX (b * 2048 + l.val) + q.val % 5))
    (hY : ∀ (q : Fin 10) (ch : Fin 64) (l : Fin 2048), Y (ix3 q ch l)
      = P ch.val (2 * (((b + 1) * 2048 + l.val) / 64) + q.val / 5) (2 * laneX ((b + 1) * 2048 + l.val) + q.val % 5))
    (a : Fin 1664) (l : Fin 2048) :
    rowQ X Y (a.val / 64) (a.val % 64) l.val = row P ((b * 2048 + l.val) / 64) (laneX (b * 2048 + l.val)) a.val := by
  have hl := l.isLt
  have hlane := laneX_add (b * 2048 + l.val) (a.val / 64 / 10)
  unfold rowQ row
  by_cases hp : a.val / 64 < 25
  · rw [if_pos hp, if_pos hp]
    by_cases h : l.val + 64 * (a.val / 64 / 10) < 2048
    · rw [if_pos h, atQ, dif_pos ⟨Nat.mod_lt _ (by decide), Nat.mod_lt _ (by decide), h⟩, hX]
      dsimp only
      have e : b * 2048 + (l.val + 64 * (a.val / 64 / 10)) = b * 2048 + l.val + 64 * (a.val / 64 / 10) := by omega
      rw [e, hlane]
      exact congrArg₂ (P _) (by omega) (by omega)
    · rw [if_neg h, atQ, dif_pos ⟨Nat.mod_lt _ (by decide), Nat.mod_lt _ (by decide), by omega⟩, hY]
      dsimp only
      have e : (b + 1) * 2048 + (l.val + 64 * (a.val / 64 / 10) - 2048) = b * 2048 + l.val + 64 * (a.val / 64 / 10) := by omega
      rw [e, hlane]
      exact congrArg₂ (P _) (by omega) (by omega)
  · rw [if_neg hp, if_neg hp]

/-- The named constant is the square of the least length. -/
theorem eps_eq : Named.named (F := Ideal) (φ := .f32) κ "eps_sq" 0x179ABE15#32 = ((least ^ 2 : ℝ) : EReal) :=
  (IdealRules.named_const.ideal_named_scalar κ "eps_sq" _ _ rfl).trans (congrArg _ least_sq)

/-- The copied lanes are the lanes of the row of windows before. -/
theorem tailed_apply (T : Vec Ideal S1x1664x1024 .bf16) (a : Fin 1664) (l : Fin 1024) :
    tailed T (k1_pay2 (tailLd T)) (ix3 0 a l)
      = T (ix3 0 a (⟨if 960 ≤ l.val then l.val - 64 else l.val, by split <;> omega⟩ : Fin 1024)) := by
  rw [pay2_apply]
  unfold tailed tailLd
  by_cases h : 960 ≤ l.val
  · rw [dif_pos (show 960 ≤ ((ix3 0 a l : S1x1664x1024.Idx) 2).val from h)]
    exact congrArg T (congrArg (ix3 0 a) (Fin.ext (show 896 + (l.val - 960) = if 960 ≤ l.val then l.val - 64 else l.val by rw [if_pos h]; omega)))
  · rw [dif_neg (show ¬ 960 ≤ ((ix3 0 a l : S1x1664x1024.Idx) 2).val from h)]
    exact congrArg T (congrArg (ix3 0 a) (Fin.ext (show l.val = if 960 ≤ l.val then l.val - 64 else l.val by rw [if_neg h])))

/-- The key tile a point stores holds the normalised key windows. -/
theorem slabVal_apply (P : ℕ → ℕ → ℕ → EReal) (i : grid1.Coords) (X Y : Vec Ideal S10x64x1024 .bf16)
    (hX : ∀ (q : Fin 10) (ch : Fin 64) (l : Fin 1024), X (ix3 q ch l)
      = P ch.val (2 * (((i 1).val * 1024 + l.val) / 64) + q.val / 5) (2 * laneX ((i 1).val * 1024 + l.val) + q.val % 5))
    (hY : ∀ (q : Fin 10) (ch : Fin 64) (l : Fin 1024), Y (ix3 q ch l)
      = P ch.val (2 * ((((i 1).val + 1) * 1024 + l.val) / 64) + q.val / 5) (2 * laneX (((i 1).val + 1) * 1024 + l.val) + q.val % 5))
    (a : Fin 1664) (l : Fin 1024) : slabVal i X Y (ix3 0 a l) = keyAt P (i 1).val l.val a.val := by
  have hi : (i 1).val < 4 := (i 1).isLt
  have hl := l.isLt
  have hk (l : Fin 1024) : kTile X Y (ix3 0 a l) = row P (((i 1).val * 1024 + l.val) / 64) (laneX ((i 1).val * 1024 + l.val)) a.val
      * recip P (((i 1).val * 1024 + l.val) / 64) (laneX ((i 1).val * 1024 + l.val)) := by
    rw [kTile_apply, eps_eq]
    simp only [rowK_eq P _ X Y hX hY]
    rfl
  unfold slabVal keyAt laneY
  by_cases h : (i 1).val = 3
  · rw [if_pos h, tailed_apply, hk]
    dsimp only
    by_cases h' : 960 ≤ l.val
    · rw [if_pos h']
      have e1 : ((i 1).val * 1024 + (l.val - 64)) / 64 = min (((i 1).val * 1024 + l.val) / 64) 62 := by omega
      have e2 : laneX ((i 1).val * 1024 + (l.val - 64)) = laneX ((i 1).val * 1024 + l.val) := by unfold laneX; omega
      rw [e1, e2]
    · rw [if_neg h', Nat.min_eq_left (by omega)]
  · rw [if_neg h, hk, Nat.min_eq_left (by omega)]

end Cert.KernelIdeal.Sim

end
-- ==== Proof.Tracked.lean ====
/-
  What the second region keeps between grid points, over the extended reals: the normalised key windows stored so far, the
  query windows, the running maxima, and the finished rows of the result.
-/
module

public import proofs.«01_k».proof.Proof.LaneValue

@[expose] public section

set_option maxRecDepth 16384

noncomputable section

namespace Cert.KernelIdeal.Sim
open Cert.KernelIdeal Cert.KernelIdeal.Gen Cert.Patch
open Idealize.ShloMosaic Idealize.ShloMosaic.TcCoe

/-- Point `t` is tile `t % 4` of query half `t / 4`. -/
theorem coords_eq : ∀ t : Fin cfg1.N, (grid1.coords t 0).val = t.val / 4 ∧ (grid1.coords t 1).val = t.val % 4 ∧ t.val < 8 := by
  decide +kernel

/-! ## One point -/

/-- The scratch buffers before point `n`. -/
def Scratch (P Q : ℕ → ℕ → ℕ → EReal) (n : ℕ) (X7 : Vec Ideal S4x1664x1024 .bf16) (X8 : Vec Ideal S1664x2048 .bf16)
    (X9 : Vec Ideal S1x2048 .f32) : Prop :=
  (∀ (b : Fin 4) (a : Fin 1664) (l : Fin 1024), b.val < n → X7 (ix3 b a l) = keyAt P b.val l.val a.val)
  ∧ (0 < n → ∀ l : Fin 2048, (∀ a : Fin 1664, X8 (ix2 a l) = queryAt Q ((n - 1) / 4) l.val a.val)
      ∧ X9 (ix2 0 l) = accAt P Q ((n - 1) / 4) l.val ((n - 1) % 4))

/-- The result's block after point `t`: its first 32 rows from point 3 on, all of it from point 7 on. -/
def Rows (P Q : ℕ → ℕ → ℕ → EReal) (t : ℕ) (X : Vec Ideal S1x1x63x63 .f32) : Prop :=
  (3 ≤ t → ∀ y x : Fin 63, y.val < 32 → X (ix4 0 0 y x) = value P Q y.val x.val)
  ∧ (7 ≤ t → ∀ y x : Fin 63, X (ix4 0 0 y x) = value P Q y.val x.val)

section Point

variable {P Q : ℕ → ℕ → ℕ → EReal} {t : Fin cfg1.N} {X Y : Vec Ideal S10x64x1024 .bf16} {Z W : Vec Ideal S10x64x2048 .bf16}
  {X7 : Vec Ideal S4x1664x1024 .bf16} {X8 : Vec Ideal S1664x2048 .bf16} {X9 : Vec Ideal S1x2048 .f32}
  (hK : ∀ (a : Fin 1664) (l : Fin 1024), slabVal (grid1.coords t) X Y (ix3 0 a l) = keyAt P (grid1.coords t 1).val l.val a.val)
  (hQ : ∀ (a : Fin 1664) (l : Fin 2048), qTile Z W (ix2 a l) = queryAt Q (grid1.coords t 0).val l.val a.val)
  (h : Scratch P Q t.val X7 X8 X9)

include hK h in
/-- The stack of key tiles after the point. -/
theorem knNext_kept (b : Fin 4) (a : Fin 1664) (l : Fin 1024) (hb : b.val < t.val + 1) :
    knNext (grid1.coords t) X Y X7 (ix3 b a l) = keyAt P b.val l.val a.val := by
  obtain ⟨c0, c1, ht⟩ := coords_eq t
  unfold knNext
  by_cases h0 : (grid1.coords t 0).val = 0
  · rw [if_pos h0]
    unfold slabPut
    by_cases e : b.val = (grid1.coords t 1).val
    · rw [if_pos (show ((ix3 b a l : S4x1664x1024.Idx) 0).val = _ from e), e]
      exact hK a l
    · rw [if_neg (show ¬ ((ix3 b a l : S4x1664x1024.Idx) 0).val = _ from e)]
      exact h.1 b a l (by omega)
  · rw [if_neg h0]
    exact h.1 b a l (by omega)

include hK h in
/-- The key tile the point multiplies. -/
theorem slabUse_kept (a : Fin 1664) (l : Fin 1024) :
    slabUse (grid1.coords t) X Y X7 (ix3 0 a l) = keyAt P (grid1.coords t 1).val l.val a.val := by
  obtain ⟨c0, c1, ht⟩ := coords_eq t
  unfold slabUse
  by_cases h0 : (grid1.coords t 0).val = 0
  · rw [if_pos h0]; exact hK a l
  · rw [if_neg h0]
    exact h.1 (⟨(grid1.coords t 1).val, (grid1.coords t 1).isLt⟩ : Fin 4) a l (show (grid1.coords t 1).val < t.val by omega)

include hQ h in
/-- The query columns after the point. -/
theorem qmNext_kept (a : Fin 1664) (l : Fin 2048) :
    qmNext (grid1.coords t) Z W X8 (ix2 a l) = queryAt Q (t.val / 4) l.val a.val := by
  obtain ⟨c0, c1, ht⟩ := coords_eq t
  unfold qmNext
  by_cases h1 : (grid1.coords t 1).val = 0
  · rw [if_pos h1, hQ, c0]
  · rw [if_neg h1, ((h.2 (by omega)) l).1 a]
    have e : (t.val - 1) / 4 = t.val / 4 := by omega
    rw [e]

include hK hQ h in
/-- The running maxima after the point. -/
theorem accNext_kept (l : Fin 2048) :
    accNext (grid1.coords t) X Y Z W X7 X8 X9 (ix2 0 l) = accAt P Q (t.val / 4) l.val (t.val % 4) := by
  obtain ⟨c0, c1, ht⟩ := coords_eq t
  have hm : Finset.fold max (Ideal.ofBits FTy.f32 4286578688#32) (fun n => ∑ a, slabUse (grid1.coords t) X Y X7 (ix3 0 a n)
      * qmNext (grid1.coords t) Z W X8 (ix2 a l)) Finset.univ = tileMax P Q (t.val / 4) l.val (t.val % 4) := by
    rw [ofBits_bot, fold_max]
    unfold tileMax
    simp only [slabUse_kept hK h, qmNext_kept hQ h, c1]
  unfold accNext
  rw [pay14_apply, hm]
  by_cases h1 : (grid1.coords t 1).val = 0
  · rw [if_pos h1]
    have e : t.val % 4 = 0 := by omega
    rw [e]; rfl
  · rw [if_neg h1, ((h.2 (by omega)) l).2]
    obtain ⟨k, hk⟩ : ∃ k, t.val % 4 = k + 1 := ⟨t.val % 4 - 1, by omega⟩
    have e1 : (t.val - 1) / 4 = t.val / 4 := by omega
    have e2 : (t.val - 1) % 4 = k := by omega
    rw [e1, e2, hk]; rfl

include hK hQ h in
/-- The scratch buffers after the point. -/
theorem scratch_next : Scratch P Q (t.val + 1) (knNext (grid1.coords t) X Y X7) (qmNext (grid1.coords t) Z W X8)
    (accNext (grid1.coords t) X Y Z W X7 X8 X9) :=
  ⟨fun b a l hb => knNext_kept hK h b a l hb, fun _ l => ⟨fun a => qmNext_kept hQ h a l, accNext_kept hK hQ h l⟩⟩

/-- A maximum over its length, at the last point of a query half, is the kernel's result. -/
theorem ratio_value {q : Vec Ideal S1664x2048 .bf16} {A : Vec Ideal S1x2048 .f32} (s y x : ℕ) (l : Fin 2048) (hs : y / 32 = s)
    (hl : l.val = 64 * (y % 32) + x) (hq : ∀ a : Fin 1664, q (ix2 a l) = queryAt Q s l.val a.val) (hA : A (ix2 0 l) = accAt P Q s l.val 3) :
    ratio q A (ix2 0 l) = value P Q y x := by
  rw [ratio_apply, hA, ofBits_least]
  simp only [hq, hl]
  unfold value len
  rw [hs]

include hK hQ h in
/-- The result's block after the point. -/
theorem rows_next {X6 : Vec Ideal S1x1x63x63 .f32} (h6 : ∀ s : Fin cfg1.N, s.val + 1 = t.val → Rows P Q s.val X6) :
    Rows P Q t.val (outNext (grid1.coords t) (qmNext (grid1.coords t) Z W X8) (accNext (grid1.coords t) X Y Z W X7 X8 X9) X6) := by
  obtain ⟨c0, c1, ht⟩ := coords_eq t
  have hold : 4 ≤ t.val → ∀ y x : Fin 63, y.val < 32 → X6 (ix4 0 0 y x) = value P Q y.val x.val := fun h4 y x hy =>
    (h6 ⟨t.val - 1, by have := t.isLt; omega⟩ (show t.val - 1 + 1 = t.val by omega)).1 (show 3 ≤ t.val - 1 by omega) y x hy
  have hr (s y x : ℕ) (l : Fin 2048) (hs : y / 32 = s) (hl : l.val = 64 * (y % 32) + x) (h3 : t.val % 4 = 3) (ht4 : t.val / 4 = s) :
      ratio (qmNext (grid1.coords t) Z W X8) (accNext (grid1.coords t) X Y Z W X7 X8 X9) (ix2 0 l) = value P Q y x :=
    ratio_value s y x l hs hl (fun a => by rw [qmNext_kept hQ h a l, ht4]) (by rw [accNext_kept hK hQ h l, ht4, h3])
  unfold outNext
  by_cases h3 : (grid1.coords t 1).val = 3
  · rw [if_pos h3]
    by_cases h0 : (grid1.coords t 0).val = 0
    · rw [if_pos h0]
      refine ⟨fun _ y x hy => ?_, fun h7 => absurd h7 (by omega)⟩
      unfold topPut
      rw [dif_pos (show ((ix4 0 0 y x : S1x1x63x63.Idx) 2).val < 32 from hy)]
      refine (pay54_apply _ _ (⟨y.val, hy⟩ : Fin 32) x).trans ?_
      exact hr 0 y.val x.val _ (by omega) (show 64 * y.val + x.val = _ by omega) (by omega) (by omega)
    · rw [if_neg h0]
      have all : ∀ y x : Fin 63, botPut (k1_pay15 (k1_pay53 (qmNext (grid1.coords t) Z W X8) (accNext (grid1.coords t) X Y Z W X7 X8 X9))) X6 (ix4 0 0 y x)
          = value P Q y.val x.val := fun y x => by
        unfold botPut
        by_cases hy : 32 ≤ y.val
        · rw [dif_pos (show 32 ≤ ((ix4 0 0 y x : S1x1x63x63.Idx) 2).val from hy)]
          refine (pay15_apply _ _ (⟨y.val - 32, by omega⟩ : Fin 31) x).trans ?_
          exact hr 1 y.val x.val _ (by omega) (show 64 * (y.val - 32) + x.val = _ by omega) (by omega) (by omega)
        · rw [dif_neg (show ¬ 32 ≤ ((ix4 0 0 y x : S1x1x63x63.Idx) 2).val from hy)]
          exact hold (by omega) y x (by omega)
      exact ⟨fun _ y x _ => all y x, fun _ => all⟩
  · rw [if_neg h3]
    exact ⟨fun h' => hold (by omega), fun h7 => absurd h7 (by omega)⟩

end Point

/-! ## The region -/

variable (m : (ℓ : Loc nD τ sig) → Buf (Elt Ideal) ℓ)

/-- What the second region keeps. -/
noncomputable def tracked (c : Dev nD) : Kept m (Run.outs m) c where
  Inv n X7 X8 X9 := Scratch (plane (m ((c : Thread nD τ).loc main_arg0))) (plane (m ((c : Thread nD τ).loc main_arg1))) n X7 X8 X9
  Out t X := Rows (plane (m ((c : Thread nD τ).loc main_arg0))) (plane (m ((c : Thread nD τ).loc main_arg1))) t.val X
  start _ _ _ := ⟨fun _ _ _ hb => absurd hb (Nat.not_lt_zero _), fun h => absurd h (Nat.lt_irrefl 0)⟩
  next t X7 X8 X9 X6 hI hO := by
    have hK := slabVal_apply _ (grid1.coords t) _ _ (Run.block1_0 m c t) (Run.block1_1 m c t)
    have hQ : ∀ (a : Fin 1664) (l : Fin 2048), qTile (block m (Run.outs m) c 2 t) (block m (Run.outs m) c 3 t) (ix2 a l)
        = queryAt (plane (m ((c : Thread nD τ).loc main_arg1))) (grid1.coords t 0).val l.val a.val := fun a l =>
      (qTile_apply _ _ a l).trans (rowQ_eq _ _ _ _ (Run.block1_2 m c t) (Run.block1_3 m c t) a l)
    exact ⟨scratch_next hK hQ hI, rows_next hK hQ hI hO⟩

end Cert.KernelIdeal.Sim

end
-- ==== Proof.RefValue.lean ====
/-
  The reference's values at an index, over the extended reals.
-/
module

public import proofs.«01_k».proof.Proof.RefRun
public import proofs.«01_k».proof.Proof.Patch
public import Idealize.ShloMosaic.Lib.Pointwise

@[expose] public section

set_option maxRecDepth 16384

noncomputable section

namespace Cert.ReferenceIdeal.Line
open Cert.ReferenceIdeal Cert.ReferenceIdeal.Gen
open Idealize.ShloMosaic Cert.Patch

/-! ## The unfolded image -/

/-- The padded image at an index. -/
theorem padded_apply (x : FVec Ideal S1x64x128x128 .f32) (c : Fin 64) (r d : Fin 130) :
    padded x (ix4 0 c r d) = plane x c.val r.val d.val := by
  pointwise [padded]
  unfold plane
  by_cases h : (1 ≤ r.val ∧ r.val - 1 < 128) ∧ 1 ≤ d.val ∧ d.val - 1 < 128
  · rw [dif_pos h, dif_pos ⟨c.isLt, h⟩]
  · rw [dif_neg h, dif_neg (fun h' => h h'.2)]
    exact (by norm_num : (((0#32 : BitVec 32).toInt : ℝ) : EReal) = 0)

/-- A shifted image at an index. -/
theorem shifted_apply (i j : ℕ) (h) (x : FVec Ideal S1x64x130x130 .f32) (c : Fin 64) (r d : Fin 63) (hi : i < 5) (hj : j < 5) :
    shifted ![0, 0, i, j] h x (ix5 0 c 0 r d) = x (ix4 0 c (⟨2 * r.val + i, by omega⟩ : Fin 130) (⟨2 * d.val + j, by omega⟩ : Fin 130)) := by
  pointwise [shifted]
  exact congrArg x (congrArg₂ (ix4 0 c) (Fin.ext (Nat.add_comm _ _)) (Fin.ext (Nat.add_comm _ _)))

/-- Every shift lies in the padded image. -/
theorem shift_inside : ∀ n : Fin 25, S1x64x130x130.SlicesBy ![0, 0, n.val / 5, n.val % 5] ![1, 1, 2, 2] S1x64x63x63 := by decide

/-- The shifted image of window position `n`. -/
def layer (x : FVec Ideal S1x64x130x130 .f32) (n : Fin 25) : FVec Ideal S1x64x1x63x63 .f32 := shifted ![0, 0, n.val / 5, n.val % 5] (shift_inside n) x

/-- The first sixteen shifted images. -/
def stack16 (x : FVec Ideal S1x64x130x130 .f32) : FVec Ideal S1x64x16x63x63 .f32 :=
  concatenate S1x64x16x63x63 2 (List.ofFn fun n : Fin 16 => (⟨S1x64x1x63x63, layer x ⟨n.val, by omega⟩⟩ : (s : Shape) × (s.Idx → EReal)))
    concatenates_S1x64x1x63x63_S1x64x1x63x63_S1x64x1x63x63_S1x64x1x63x63_S1x64x1x63x63_S1x64x1x63x63_S1x64x1x63x63_S1x64x1x63x63_S1x64x1x63x63_S1x64x1x63x63_S1x64x1x63x63_S1x64x1x63x63_S1x64x1x63x63_S1x64x1x63x63_S1x64x1x63x63_S1x64x1x63x63_S1x64x16x63x63_d2

/-- The other nine shifted images. -/
def stack9 (x : FVec Ideal S1x64x130x130 .f32) : FVec Ideal S1x64x9x63x63 .f32 :=
  concatenate S1x64x9x63x63 2 (List.ofFn fun n : Fin 9 => (⟨S1x64x1x63x63, layer x ⟨n.val + 16, by omega⟩⟩ : (s : Shape) × (s.Idx → EReal)))
    concatenates_S1x64x1x63x63_S1x64x1x63x63_S1x64x1x63x63_S1x64x1x63x63_S1x64x1x63x63_S1x64x1x63x63_S1x64x1x63x63_S1x64x1x63x63_S1x64x1x63x63_S1x64x9x63x63_d2

set_option maxHeartbeats 4000000 in
/-- The windows are the two stacks, flattened. -/
theorem unfolded_eq (x : FVec Ideal S1x64x130x130 .f32) :
    unfolded x = shapeCast S1x1600x3969 (cat25 (stack16 x) (stack9 x)) shapeCasts_S1x64x25x63x63_S1x1600x3969 := rfl

/-- The first stack at an index. -/
theorem stack16_apply (x : FVec Ideal S1x64x130x130 .f32) (c : Fin 64) (n : Fin 16) (r d : Fin 63) :
    stack16 x (ix5 0 c n r d) = layer x ⟨n.val, by omega⟩ (ix5 0 c 0 r d) := by
  unfold stack16
  refine (concatenate_ofFn_apply (t := S1x64x16x63x63) (s₁ := S1x64x1x63x63) (2 : Fin 5) (fun n : Fin 16 => layer x ⟨n.val, by omega⟩) _ rfl 1 rfl
    (ix5 0 c n r d : S1x64x16x63x63.Idx) ⟨n.val / 1, by omega⟩ rfl
    (ix5 0 c (⟨n.val % 1, Nat.mod_lt _ (by decide)⟩ : Fin 1) r d : S1x64x1x63x63.Idx) rfl (fun b hb => by fin_cases b <;> first | rfl | exact absurd rfl hb)).trans ?_
  have e : (⟨n.val % 1, Nat.mod_lt _ (by decide)⟩ : Fin 1) = 0 := Subsingleton.elim _ _
  rw [e]
  simp only [Nat.div_one]

/-- The second stack at an index. -/
theorem stack9_apply (x : FVec Ideal S1x64x130x130 .f32) (c : Fin 64) (n : Fin 9) (r d : Fin 63) :
    stack9 x (ix5 0 c n r d) = layer x ⟨n.val + 16, by omega⟩ (ix5 0 c 0 r d) := by
  unfold stack9
  refine (concatenate_ofFn_apply (t := S1x64x9x63x63) (s₁ := S1x64x1x63x63) (2 : Fin 5) (fun n : Fin 9 => layer x ⟨n.val + 16, by omega⟩) _ rfl 1 rfl
    (ix5 0 c n r d : S1x64x9x63x63.Idx) ⟨n.val / 1, by omega⟩ rfl
    (ix5 0 c (⟨n.val % 1, Nat.mod_lt _ (by decide)⟩ : Fin 1) r d : S1x64x1x63x63.Idx) rfl (fun b hb => by fin_cases b <;> first | rfl | exact absurd rfl hb)).trans ?_
  have e : (⟨n.val % 1, Nat.mod_lt _ (by decide)⟩ : Fin 1) = 0 := Subsingleton.elim _ _
  rw [e]
  simp only [Nat.div_one]

/-- The unfolded padded image at an index: row `25 * c + 5 * i + j`, column `63 * y + x` is channel `c` of the padded image at
    row `2 * y + i` and column `2 * x + j`. -/
theorem unfolded_apply (x : FVec Ideal S1x64x128x128 .f32) (a : Fin 1600) (l : Fin 3969) :
    unfolded (padded x) (ix3 0 a l) = plane x (a.val / 25) (2 * (l.val / 63) + a.val % 25 / 5) (2 * (l.val % 63) + a.val % 25 % 5) := by
  have hl : ∀ (c : Fin 64) (n : Fin 25) (r d : Fin 63), layer (padded x) n (ix5 0 c 0 r d)
      = plane x c.val (2 * r.val + n.val / 5) (2 * d.val + n.val % 5) := fun c n r d =>
    (shifted_apply _ _ _ _ _ _ _ (by omega) (by omega)).trans (padded_apply _ _ _ _)
  rw [unfolded_eq]
  pointwise [cat25]
  by_cases h : a.val % 25 < 16
  · rw [dif_pos h, stack16_apply, hl]
  · rw [dif_neg h, stack9_apply, hl]
    have e : a.val % 25 - 16 + 16 = a.val % 25 := by omega
    simp only [e]

/-! ## The normalised windows and their products -/

/-- The normalised key windows at an index. -/
theorem normK_apply (k : FVec Ideal S1x1600x3969 .f32) (l : Fin 3969) (a : Fin 1600) :
    normK k (ix3 0 l a) = Ideal.div (k (ix3 0 a l))
      (max (Ideal.sqrt (∑ b, k (ix3 0 b l) * k (ix3 0 b l))) (Ideal.ofBits FTy.f32 0x2B8CBCCC#32)) := by
  pointwise [normK]

/-- The normalised query windows at an index. -/
theorem normQ_apply (k : FVec Ideal S1x1600x3969 .f32) (l : Fin 3969) (a : Fin 1600) :
    normQ k (ix3 0 a l) = Ideal.div (k (ix3 0 a l))
      (max (Ideal.sqrt (∑ b, k (ix3 0 b l) * k (ix3 0 b l))) (Ideal.ofBits FTy.f32 0x2B8CBCCC#32)) := by
  pointwise [normQ]

/-- The largest products at an index. -/
theorem largest_apply (k : FVec Ideal S1x3969x1600 .f32) (q : FVec Ideal S1x1600x3969 .f32) (y x : Fin 63) :
    largest k q (ix4 0 0 y x) = Finset.fold max (Ideal.ofBits FTy.f32 0xFF800000#32)
      (fun l => ∑ a, k (ix3 0 l a) * q (ix3 0 a (⟨y.val * 63 + x.val, by omega⟩ : Fin 3969))) Finset.univ := by
  pointwise [largest]

/-- The reference's result at an index: the largest product of a key window with the query window, both divided by their
    lengths. -/
theorem result_apply (k q : FVec Ideal S1x64x128x128 .f32) (y x : Fin 63) :
    result k q (ix4 0 0 y x) = value (plane k) (plane q) y.val x.val := by
  rw [value_eq _ _ _ _ x.isLt]
  unfold result
  rw [largest_apply]
  simp only [normK_apply, normQ_apply, unfolded_apply, ofBits_least, ofBits_bot]
  rw [fold_max]
  have e1 : (y.val * 63 + x.val) / 63 = y.val := by omega
  have e2 : (y.val * 63 + x.val) % 63 = x.val := by omega
  simp only [e1, e2]
  rfl

end Cert.ReferenceIdeal.Line

end
-- ==== Proof.Algebraic.lean ====
/-
  The kernel's ideal form and the reference hold the same result, over the extended reals.
-/
module

public import proofs.«01_k».proof.Defs
public import proofs.«01_k».proof.Proof.Tracked
public import proofs.«01_k».proof.Proof.RefRun
public import proofs.«01_k».proof.Proof.RefValue
public import proofs.«01_k».proof.Proof.Run

@[expose] public section

set_option maxRecDepth 16384

noncomputable section

namespace Cert.Proof

open Idealize.ShloMosaic Idealize.SL.Sem Cert.Patch

/-- A block that is finished after the last point is the reference's result. -/
theorem rows_result (k q : FVec Ideal Cert.ReferenceIdeal.S1x64x128x128 .f32) (X : Vec Ideal Cert.KernelIdeal.S1x1x63x63 .f32)
    (h : Cert.KernelIdeal.Sim.Rows (plane k) (plane q) 7 X) : X = Cert.ReferenceIdeal.Line.result k q :=
  funext fun i => by
    have e : i = ix4 0 0 (i 2) (i 3) := by
      have h0 : i 0 = (0 : Fin 1) := Subsingleton.elim (α := Fin 1) _ _
      have h1 : i 1 = (0 : Fin 1) := Subsingleton.elim (α := Fin 1) _ _
      exact (eq_ix4 i).trans (by rw [h0, h1]; rfl)
    rw [e]
    exact (h.2 le_rfl (i 2) (i 3)).trans (Cert.ReferenceIdeal.Line.result_apply k q (i 2) (i 3)).symm

/-- From the same arguments the kernel's ideal form and the reference end with the same result. -/
theorem algebraic : Cert.algebraic_KernelIdeal_ReferenceIdeal := fun m g m' g' _ hm =>
  ⟨fun c => Cert.ReferenceIdeal.Line.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run (Cert.KernelIdeal.defs (F := Ideal)) _ _).mono
      (fun r h c => ⟨by
        obtain ⟨X, hX, e⟩ := (h.1 c).2
        exact e.trans (rows_result _ _ X hX), (h.1 c).1⟩)
      (Cert.KernelIdeal.Run.run (F := Ideal) (m := m) (fun c => Cert.KernelIdeal.Sim.tracked m c) g),
    (θ_run (Cert.ReferenceIdeal.defs (F := Ideal)) _ _).mono
      (fun r h c => ⟨(h c).1.trans (by rw [(hm c).1, (hm c).2.1]), (h c).2⟩)
      (Cert.ReferenceIdeal.Line.run (F := Ideal) m' g')⟩

end Cert.Proof

end
-- ==== Proof.lean ====
/-
  The claims: the frames of the two programs and of the reference, the rewrites from the kernel to its ideal form, and the
  equality of that form's result with the reference's over the extended reals.
-/
module

public import proofs.«01_k».proof.Defs
public import proofs.«01_k».proof.Proof.Frames
public import proofs.«01_k».proof.Proof.Algebraic

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, frame_kernel, frame_ideal, frame_reference,
    preserves, algebraic⟩

end Cert.Proof

end
